-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_not_negative [hPre_batch_not_negative : Cert.Pre_batch_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_batch_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_not_negative [hPre_batch_not_negative : Cert.Pre_batch_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_BesideIdeal [hPre_exact_states : Cert.Pre_exact_states.Facts] (m : (ℓ : Loc Cert.BesideIdeal.nD Cert.BesideIdeal.τ Cert.BesideIdeal.sig) → Buf (Elt Ideal) ℓ) : Prop :=
  ∀ c : Dev Cert.BesideIdeal.nD,
    (Cert.Pre_exact_states.fn (F := Ideal) (m ((c.tc : Thread Cert.BesideIdeal.nD Cert.BesideIdeal.τ).loc Cert.BesideIdeal.main_arg0)) (m ((c.tc : Thread Cert.BesideIdeal.nD Cert.BesideIdeal.τ).loc Cert.BesideIdeal.main_arg1)) (m ((c.tc : Thread Cert.BesideIdeal.nD Cert.BesideIdeal.τ).loc Cert.BesideIdeal.main_arg2)) (m ((c.tc : Thread Cert.BesideIdeal.nD Cert.BesideIdeal.τ).loc Cert.BesideIdeal.main_arg3)) (m ((c.tc : Thread Cert.BesideIdeal.nD Cert.BesideIdeal.τ).loc Cert.BesideIdeal.main_arg4)) (m ((c.tc : Thread Cert.BesideIdeal.nD Cert.BesideIdeal.τ).loc Cert.BesideIdeal.main_arg5)) (m ((c.tc : Thread Cert.BesideIdeal.nD Cert.BesideIdeal.τ).loc Cert.BesideIdeal.main_arg6))).1 = (fun _ => 1#1)
    ∧ (Cert.Pre_exact_states.fn (F := Ideal) (m ((c.tc : Thread Cert.BesideIdeal.nD Cert.BesideIdeal.τ).loc Cert.BesideIdeal.main_arg0)) (m ((c.tc : Thread Cert.BesideIdeal.nD Cert.BesideIdeal.τ).loc Cert.BesideIdeal.main_arg1)) (m ((c.tc : Thread Cert.BesideIdeal.nD Cert.BesideIdeal.τ).loc Cert.BesideIdeal.main_arg2)) (m ((c.tc : Thread Cert.BesideIdeal.nD Cert.BesideIdeal.τ).loc Cert.BesideIdeal.main_arg3)) (m ((c.tc : Thread Cert.BesideIdeal.nD Cert.BesideIdeal.τ).loc Cert.BesideIdeal.main_arg4)) (m ((c.tc : Thread Cert.BesideIdeal.nD Cert.BesideIdeal.τ).loc Cert.BesideIdeal.main_arg5)) (m ((c.tc : Thread Cert.BesideIdeal.nD Cert.BesideIdeal.τ).loc Cert.BesideIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_batch_not_negative [hKernelIdeal : Cert.KernelIdeal.Facts] [hPre_batch_not_negative : Cert.Pre_batch_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_batch_not_negative [hReferenceIdeal : Cert.ReferenceIdeal.Facts] [hPre_batch_not_negative : Cert.Pre_batch_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_BesideIdeal [hBesideIdeal : Cert.BesideIdeal.Facts] [hPre_exact_states : Cert.Pre_exact_states.Facts] : Prop :=
  ∀ (m : (ℓ : Loc Cert.BesideIdeal.nD Cert.BesideIdeal.τ Cert.BesideIdeal.sig) → Buf (Elt Ideal) ℓ) (g : Dev Cert.BesideIdeal.nD → PrngReg), Pre_BesideIdeal m →
    θ_run (Cert.BesideIdeal.defs (F := Ideal)) (onTc (τ := Cert.BesideIdeal.τ) (Cert.BesideIdeal.main (F := Ideal))) ⟨m, fun _ => 0, g⟩ (fun r => (∀ c : Dev Cert.BesideIdeal.nD,
      r.2.mem ((c.tc : Thread Cert.BesideIdeal.nD Cert.BesideIdeal.τ).loc Cert.BesideIdeal.main_arg0) = m ((c.tc : Thread Cert.BesideIdeal.nD Cert.BesideIdeal.τ).loc Cert.BesideIdeal.main_arg0)
      ∧ r.2.mem ((c.tc : Thread Cert.BesideIdeal.nD Cert.BesideIdeal.τ).loc Cert.BesideIdeal.main_arg1) = m ((c.tc : Thread Cert.BesideIdeal.nD Cert.BesideIdeal.τ).loc Cert.BesideIdeal.main_arg1)
      ∧ r.2.mem ((c.tc : Thread Cert.BesideIdeal.nD Cert.BesideIdeal.τ).loc Cert.BesideIdeal.main_arg2) = m ((c.tc : Thread Cert.BesideIdeal.nD Cert.BesideIdeal.τ).loc Cert.BesideIdeal.main_arg2)
      ∧ r.2.mem ((c.tc : Thread Cert.BesideIdeal.nD Cert.BesideIdeal.τ).loc Cert.BesideIdeal.main_arg3) = m ((c.tc : Thread Cert.BesideIdeal.nD Cert.BesideIdeal.τ).loc Cert.BesideIdeal.main_arg3)
      ∧ r.2.mem ((c.tc : Thread Cert.BesideIdeal.nD Cert.BesideIdeal.τ).loc Cert.BesideIdeal.main_arg4) = m ((c.tc : Thread Cert.BesideIdeal.nD Cert.BesideIdeal.τ).loc Cert.BesideIdeal.main_arg4)
      ∧ r.2.mem ((c.tc : Thread Cert.BesideIdeal.nD Cert.BesideIdeal.τ).loc Cert.BesideIdeal.main_arg5) = m ((c.tc : Thread Cert.BesideIdeal.nD Cert.BesideIdeal.τ).loc Cert.BesideIdeal.main_arg5)
      ∧ r.2.mem ((c.tc : Thread Cert.BesideIdeal.nD Cert.BesideIdeal.τ).loc Cert.BesideIdeal.main_arg6) = m ((c.tc : Thread Cert.BesideIdeal.nD Cert.BesideIdeal.τ).loc Cert.BesideIdeal.main_arg6))
      ∧ r.2.sem = fun _ => 0)

def preserves_Kernel_KernelIdeal : Prop :=
  True

def algebraic_KernelIdeal_ReferenceIdeal_pre_batch_not_negative [hKernelIdeal : Cert.KernelIdeal.Facts] [hReferenceIdeal : Cert.ReferenceIdeal.Facts] [hPre_batch_not_negative : Cert.Pre_batch_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def holds_BesideIdeal_near_exact [hBesideIdeal : Cert.BesideIdeal.Facts] [hPre_exact_states : Cert.Pre_exact_states.Facts] [hPost_near_exact : Cert.Post_near_exact.Facts] : Prop :=
  ∀ (m : (ℓ : Loc Cert.BesideIdeal.nD Cert.BesideIdeal.τ Cert.BesideIdeal.sig) → Buf (Elt Ideal) ℓ) (g : Dev Cert.BesideIdeal.nD → PrngReg), Pre_BesideIdeal m →
    θ_run (Cert.BesideIdeal.defs (F := Ideal)) (onTc (τ := Cert.BesideIdeal.τ) (Cert.BesideIdeal.main (F := Ideal))) ⟨m, fun _ => 0, g⟩ (fun r => ∀ c : Dev Cert.BesideIdeal.nD,
      r.2.mem ((c.tc : Thread Cert.BesideIdeal.nD Cert.BesideIdeal.τ).loc Cert.BesideIdeal.main_arg0) = m ((c.tc : Thread Cert.BesideIdeal.nD Cert.BesideIdeal.τ).loc Cert.BesideIdeal.main_arg0)
      ∧ r.2.mem ((c.tc : Thread Cert.BesideIdeal.nD Cert.BesideIdeal.τ).loc Cert.BesideIdeal.main_arg1) = m ((c.tc : Thread Cert.BesideIdeal.nD Cert.BesideIdeal.τ).loc Cert.BesideIdeal.main_arg1)
      ∧ r.2.mem ((c.tc : Thread Cert.BesideIdeal.nD Cert.BesideIdeal.τ).loc Cert.BesideIdeal.main_arg2) = m ((c.tc : Thread Cert.BesideIdeal.nD Cert.BesideIdeal.τ).loc Cert.BesideIdeal.main_arg2)
      ∧ r.2.mem ((c.tc : Thread Cert.BesideIdeal.nD Cert.BesideIdeal.τ).loc Cert.BesideIdeal.main_arg3) = m ((c.tc : Thread Cert.BesideIdeal.nD Cert.BesideIdeal.τ).loc Cert.BesideIdeal.main_arg3)
      ∧ r.2.mem ((c.tc : Thread Cert.BesideIdeal.nD Cert.BesideIdeal.τ).loc Cert.BesideIdeal.main_arg4) = m ((c.tc : Thread Cert.BesideIdeal.nD Cert.BesideIdeal.τ).loc Cert.BesideIdeal.main_arg4)
      ∧ r.2.mem ((c.tc : Thread Cert.BesideIdeal.nD Cert.BesideIdeal.τ).loc Cert.BesideIdeal.main_arg5) = m ((c.tc : Thread Cert.BesideIdeal.nD Cert.BesideIdeal.τ).loc Cert.BesideIdeal.main_arg5)
      ∧ r.2.mem ((c.tc : Thread Cert.BesideIdeal.nD Cert.BesideIdeal.τ).loc Cert.BesideIdeal.main_arg6) = m ((c.tc : Thread Cert.BesideIdeal.nD Cert.BesideIdeal.τ).loc Cert.BesideIdeal.main_arg6)
      ∧ (Cert.Post_near_exact.fn (F := Ideal) (m ((c.tc : Thread Cert.BesideIdeal.nD Cert.BesideIdeal.τ).loc Cert.BesideIdeal.main_arg0)) (m ((c.tc : Thread Cert.BesideIdeal.nD Cert.BesideIdeal.τ).loc Cert.BesideIdeal.main_arg1)) (m ((c.tc : Thread Cert.BesideIdeal.nD Cert.BesideIdeal.τ).loc Cert.BesideIdeal.main_arg2)) (m ((c.tc : Thread Cert.BesideIdeal.nD Cert.BesideIdeal.τ).loc Cert.BesideIdeal.main_arg3)) (m ((c.tc : Thread Cert.BesideIdeal.nD Cert.BesideIdeal.τ).loc Cert.BesideIdeal.main_arg4)) (m ((c.tc : Thread Cert.BesideIdeal.nD Cert.BesideIdeal.τ).loc Cert.BesideIdeal.main_arg5)) (m ((c.tc : Thread Cert.BesideIdeal.nD Cert.BesideIdeal.τ).loc Cert.BesideIdeal.main_arg6)) (r.2.mem ((c.tc : Thread Cert.BesideIdeal.nD Cert.BesideIdeal.τ).loc Cert.BesideIdeal.main_v15))) = (fun _ => 1#1))

def Claim : Prop :=
  ∃ (hKernel : Cert.Kernel.Facts) (hKernelIdeal : Cert.KernelIdeal.Facts) (hReferenceIdeal : Cert.ReferenceIdeal.Facts) (hBesideIdeal : Cert.BesideIdeal.Facts) (hPre_batch_not_negative : Cert.Pre_batch_not_negative.Facts) (hPre_exact_states : Cert.Pre_exact_states.Facts) (hPost_near_exact : Cert.Post_near_exact.Facts),
    quiescent_Kernel (hKernel := hKernel)
    ∧ quiescent_KernelIdeal (hKernelIdeal := hKernelIdeal)
    ∧ quiescent_KernelIdeal_pre_batch_not_negative (hKernelIdeal := hKernelIdeal) (hPre_batch_not_negative := hPre_batch_not_negative)
    ∧ quiescent_ReferenceIdeal (hReferenceIdeal := hReferenceIdeal)
    ∧ quiescent_ReferenceIdeal_pre_batch_not_negative (hReferenceIdeal := hReferenceIdeal) (hPre_batch_not_negative := hPre_batch_not_negative)
    ∧ quiescent_BesideIdeal (hBesideIdeal := hBesideIdeal) (hPre_exact_states := hPre_exact_states)
    ∧ preserves_Kernel_KernelIdeal
    ∧ algebraic_KernelIdeal_ReferenceIdeal_pre_batch_not_negative (hKernelIdeal := hKernelIdeal) (hReferenceIdeal := hReferenceIdeal) (hPre_batch_not_negative := hPre_batch_not_negative)
    ∧ holds_BesideIdeal_near_exact (hBesideIdeal := hBesideIdeal) (hPre_exact_states := hPre_exact_states) (hPost_near_exact := hPost_near_exact)
-- ==== Post_near_exact.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S32768x1 : Shape := ⟨2, ![32768, 1]⟩
abbrev S16x1 : Shape := ⟨2, ![16, 1]⟩
abbrev S_ : Shape := ⟨0, ![]⟩
abbrev S16 : Shape := ⟨1, ![16]⟩

class Facts : Prop where
  bcast_S_S16x1 : S_.BroadcastsInDim S16x1 (![] : Fin 0 → Fin S16x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S16 : S_.BroadcastsInDim S16 (![] : Fin 0 → Fin S16.rank)
  bcast_S16_S16x1_0 : S16.BroadcastsInDim S16x1 (![0] : Fin 1 → Fin S16x1.rank)
  bcast_S_S1x1 : S_.BroadcastsInDim S1x1 (![] : Fin 0 → Fin S1x1.rank)
  bcast_S1x1_S16x1_0_1 : S1x1.BroadcastsInDim S16x1 (![0, 1] : Fin 2 → Fin S16x1.rank)
  scatter_S16x1_S32768x1_S32768x1_1_0_0_1_wf : ScatterDims.WF S16x1 S32768x1 S32768x1 [1] [0] [0] 1
  scatter_S16_S32768x1_S32768_n_0_0_1_wf : ScatterDims.WF S16 S32768x1 S32768 [] [0] [0] 1

variable [Facts]

def scatter_S16x1_S32768x1_S32768x1_1_0_0_1 : ScatterDims S16x1 S32768x1 S32768x1 where
  updateWindowDims := [1]
  insertedWindowDims := [0]
  scatterDimsToOperandDims := [0]
  indexVectorDim := 1
  wf := scatter_S16x1_S32768x1_S32768x1_1_0_0_1_wf
def scatter_S16_S32768x1_S32768_n_0_0_1 : ScatterDims S16 S32768x1 S32768 where
  updateWindowDims := []
  insertedWindowDims := [0]
  scatterDimsToOperandDims := [0]
  indexVectorDim := 1
  wf := scatter_S16_S32768x1_S32768_n_0_0_1_wf
def fn_clip {F : FTy → Type} [FloatOps F] (arg0 : IVec S32768 32) (arg1 : IVec S_ 32) : IVec S32768 32 :=
  let v0 : IVec S_ 32 := id arg1
  let v1 : IVec S32768 32 := broadcastInDim S32768 ![] bcast_S_S32768 v0
  let v2 : IVec S32768 32 := maxsi v1 arg0
  v2

def fn_part2 {F : FTy → Type} [FloatOps F] (main_v21 : IVec S16x1 1) (main_v37 : IVec S16x1 1) : IVec S16x1 1 :=
  let main_v38 : IVec S16x1 1 := ori main_v21 main_v37
  main_v38

def fn_part1 {F : FTy → Type} [FloatOps F] (main_arg3 : FVec F S1x1 .f32) (main_arg7 : FVec F S16x1 .f32) (main_v7 : FVec F S16x1 .f32) (main_v8 : IVec S16 32) (main_v15 : IVec S32768x1 32) (main_c_5 : IVec S_ 32) : IVec S16x1 1 :=
  let main_v16 : IVec S32768 32 := broadcastInDim S32768 ![] bcast_S_S32768 main_c_5
  let main_v17 : IVec S16 32 := (fun x i u => Host.scatter scatter_S16_S32768x1_S32768_n_0_0_1 IntOp.addi x i u) main_v8 main_v15 main_v16
  let main_v18 : FVec F S16 .f32 := sitofp .f32 main_v17
  let main_v19 : FVec F S16x1 .f32 := broadcastInDim S16x1 ![0] bcast_S16_S16x1_0 main_v18
  let main_cst_6 : FVec F S_ .f32 := constant S_ .f32 0x00000000#32
  let main_v20 : FVec F S16x1 .f32 := broadcastInDim S16x1 ![] bcast_S_S16x1 main_cst_6
  let main_v21 : IVec S16x1 1 := cmpf .oeq main_v19 main_v20
  let main_v22 : FVec F S16x1 .f32 := Host.divf main_v7 main_v19
  let main_v23 : FVec F S16x1 .f32 := subf main_arg7 main_v22
  let main_v24 : FVec F S16x1 .f32 := Host.absf main_v23
  let main_v25 : FVec F S1x1 .f32 := Host.absf main_arg3
  let main_v26 : FVec F S1x1 .f32 := mulf main_v25 main_v25
  let main_v27 : FVec F S1x1 .f32 := mulf main_v26 main_v26
  let main_v28 : FVec F S1x1 .f32 := mulf main_v27 main_v27
  let main_v29 : FVec F S1x1 .f32 := mulf main_v28 main_v28
  let main_v30 : FVec F S1x1 .f32 := mulf main_v29 main_v29
  let main_v31 : FVec F S1x1 .f32 := mulf main_v25 main_v30
  let main_v32 : FVec F S1x1 .f32 := mulf main_v30 main_v30
  let main_v33 : FVec F S1x1 .f32 := mulf main_v31 main_v32
  let main_cst_7 : FVec F S_ .f32 := constant S_ .f32 0x40000000#32
  let main_v34 : FVec F S1x1 .f32 := broadcastInDim S1x1 ![] bcast_S_S1x1 main_cst_7
  let main_v35 : FVec F S1x1 .f32 := mulf main_v34 main_v33
  let main_v36 : FVec F S16x1 .f32 := broadcastInDim S16x1 ![0, 1] bcast_S1x1_S16x1_0_1 main_v35
  let main_v37 : IVec S16x1 1 := cmpf .ole main_v24 main_v36
  fn_part2 (F := F) main_v21 main_v37

def fn {F : FTy → Type} [FloatOps F] (main_arg0 : FVec F S32768x256 .f32) (main_arg1 : IVec S32768 32) (main_arg2 : FVec F S1x256 .f32) (main_arg3 : FVec F S1x1 .f32) (main_arg4 : FVec F S1 .f32) (main_arg5 : FVec F S1 .f32) (main_arg6 : FVec F S32768x1 .f32) (main_arg7 : FVec F S16x1 .f32) : IVec S16x1 1 :=
  let main_cst : FVec F S_ .f32 := constant S_ .f32 0x00000000#32
  let main_v0 : FVec F S16x1 .f32 := broadcastInDim S16x1 ![] bcast_S_S16x1 main_cst
  let main_c : IVec S_ 32 := constantI S_ 32 0#32
  let main_v1 : IVec S32768 32 := broadcastInDim S32768 ![] bcast_S_S32768 main_c
  let main_v2 : IVec S32768 1 := cmpi .slt main_arg1 main_v1
  let main_c_0 : IVec S_ 32 := constantI S_ 32 16#32
  let main_v3 : IVec S32768 32 := broadcastInDim S32768 ![] bcast_S_S32768 main_c_0
  let main_v4 : IVec S32768 32 := addi main_arg1 main_v3
  let main_v5 : IVec S32768 32 := select main_v2 main_v4 main_arg1
  let main_v6 : IVec S32768x1 32 := broadcastInDim S32768x1 ![0] bcast_S32768_S32768x1_0 main_v5
  let main_v7 : FVec F S16x1 .f32 := (fun x i u => Host.scatterAdd scatter_S16x1_S32768x1_S32768x1_1_0_0_1 x i u) main_v0 main_v6 main_arg6
  let main_c_1 : IVec S_ 32 := constantI S_ 32 0#32
  let main_v8 : IVec S16 32 := broadcastInDim S16 ![] bcast_S_S16 main_c_1
  let main_c_2 : IVec S_ 32 := constantI S_ 32 0#32
  let main_v9 : IVec S32768 32 := fn_clip (F := F) main_arg1 main_c_2
  let main_c_3 : IVec S_ 32 := constantI S_ 32 0#32
  let main_v10 : IVec S32768 32 := broadcastInDim S32768 ![] bcast_S_S32768 main_c_3
  let main_v11 : IVec S32768 1 := cmpi .slt main_v9 main_v10
  let main_c_4 : IVec S_ 32 := constantI S_ 32 16#32
  let main_v12 : IVec S32768 32 := broadcastInDim S32768 ![] bcast_S_S32768 main_c_4
  let main_v13 : IVec S32768 32 := addi main_v9 main_v12
  let main_v14 : IVec S32768 32 := select main_v11 main_v13 main_v9
  let main_v15 : IVec S32768x1 32 := broadcastInDim S32768x1 ![0] bcast_S32768_S32768x1_0 main_v14
  let main_c_5 : IVec S_ 32 := constantI S_ 32 1#32
  fn_part1 (F := F) main_arg3 main_arg7 main_v7 main_v8 main_v15 main_c_5
-- ==== Pre_batch_not_negative.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768x256 .f32) (main_arg1 : IVec S32768 32) (main_arg2 : FVec F S1x256 .f32) (main_arg3 : FVec F S1x1 .f32) (main_arg4 : FVec F S1 .f32) (main_arg5 : FVec F S1 .f32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  main_v1
-- ==== Pre_exact_states.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S32768x1 : Shape := ⟨2, ![32768, 1]⟩
abbrev S_ : Shape := ⟨0, ![]⟩
abbrev S32767x1 : Shape := ⟨2, ![32767, 1]⟩
abbrev S256x1 : Shape := ⟨2, ![256, 1]⟩

class Facts : Prop where
  bcast_S_S1x1 : S_.BroadcastsInDim S1x1 (![] : Fin 0 → Fin S1x1.rank)
  slices_S32768x1_S32767x1_0_0 : S32768x1.Slices ![0, 0] S32767x1
  concatenates_S1x1_S32767x1_S32768x1_d0 : Shape.Concatenates [S1x1, S32767x1] S32768x1 0
  transposes_S1x256_S256x1_1_0 : S1x256.Transposes [1, 0] S256x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  transposes_S1x1_S1x1_1_0 : S1x1.Transposes [1, 0] S1x1
  bcast_S_S32768 : S_.BroadcastsInDim S32768 (![] : Fin 0 → Fin S32768.rank)
  dot_S32768x256_S256x1_S32768x1_1_0_0_1_n_n_wf : DotDims.WF S32768x256 S256x1 S32768x1 [1] [0] [0] [1] [] []
  dot_S32768x1_S1x1_S32768x1_1_0_0_1_n_n_wf : DotDims.WF S32768x1 S1x1 S32768x1 [1] [0] [0] [1] [] []

variable [Facts]

def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf
def dot_S32768x1_S1x1_S32768x1_1_0_0_1_n_n : DotDims S32768x1 S1x1 S32768x1 where
  lhsContracting := [1]
  rhsContracting := [0]
  lhsNonContracting := [0]
  rhsNonContracting := [1]
  lhsBatch := []
  rhsBatch := []
  wf := dot_S32768x1_S1x1_S32768x1_1_0_0_1_n_n_wf
def fn {F : FTy → Type} [FloatOps F] (main_arg0 : FVec F S32768x256 .f32) (main_arg1 : IVec S32768 32) (main_arg2 : FVec F S1x256 .f32) (main_arg3 : FVec F S1x1 .f32) (main_arg4 : FVec F S1 .f32) (main_arg5 : FVec F S1 .f32) (main_arg6 : FVec F S32768x1 .f32) : IVec S32768x1 1 × IVec S32768 1 :=
  let main_cst : FVec F S_ .f32 := constant S_ .f32 0x00000000#32
  let main_v0 : FVec F S1x1 .f32 := broadcastInDim S1x1 ![] bcast_S_S1x1 main_cst
  let main_v1 : FVec F S32767x1 .f32 := (extractStridedSlice S32767x1 ![0, 0] · slices_S32768x1_S32767x1_0_0) main_arg6
  let main_v2 : FVec F S32768x1 .f32 := (fun a b => concatenate S32768x1 0 [⟨S1x1, a⟩, ⟨S32767x1, b⟩] concatenates_S1x1_S32767x1_S32768x1_d0) main_v0 main_v1
  let main_v3 : FVec F S256x1 .f32 := (transpose S256x1 [1, 0] · transposes_S1x256_S256x1_1_0) main_arg2
  let main_v4 : FVec F S32768x1 .f32 := (fun l r => Host.dotGeneral dot_S32768x256_S256x1_S32768x1_1_0_0_1_n_n none l r) main_arg0 main_v3
  let main_v5 : FVec F S1x1 .f32 := broadcastInDim S1x1 ![1] bcast_S1_S1x1_1 main_arg4
  let main_v6 : FVec F S32768x1 .f32 := broadcastInDim S32768x1 ![0, 1] bcast_S1x1_S32768x1_0_1 main_v5
  let main_v7 : FVec F S32768x1 .f32 := addf main_v4 main_v6
  let main_v8 : FVec F S1x1 .f32 := (transpose S1x1 [1, 0] · transposes_S1x1_S1x1_1_0) main_arg3
  let main_v9 : FVec F S32768x1 .f32 := (fun l r => Host.dotGeneral dot_S32768x1_S1x1_S32768x1_1_0_0_1_n_n none l r) main_v2 main_v8
  let main_v10 : FVec F S32768x1 .f32 := addf main_v7 main_v9
  let main_v11 : FVec F S1x1 .f32 := broadcastInDim S1x1 ![1] bcast_S1_S1x1_1 main_arg5
  let main_v12 : FVec F S32768x1 .f32 := broadcastInDim S32768x1 ![0, 1] bcast_S1x1_S32768x1_0_1 main_v11
  let main_v13 : FVec F S32768x1 .f32 := addf main_v10 main_v12
  let main_v14 : FVec F S32768x1 .f32 := Host.tanh main_v13
  let main_v15 : IVec S32768x1 1 := cmpf .oeq main_arg6 main_v14
  let main_c : IVec S_ 32 := constantI S_ 32 0#32
  let main_v16 : IVec S32768 32 := broadcastInDim S32768 ![] bcast_S_S32768 main_c
  let main_v17 : IVec S32768 1 := cmpi .sge main_arg1 main_v16
  (main_v15, main_v17)
-- ==== Kernel.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S_ : Shape := ⟨0, ![]⟩
abbrev S1024x32 : Shape := ⟨2, ![1024, 32]⟩
abbrev S32x1024 : Shape := ⟨2, ![32, 1024]⟩
abbrev S256x256 : Shape := ⟨2, ![256, 256]⟩
abbrev S1024x32x256 : Shape := ⟨3, ![1024, 32, 256]⟩
abbrev S1x1x256 : Shape := ⟨3, ![1, 1, 256]⟩
abbrev S16x128 : Shape := ⟨2, ![16, 128]⟩
abbrev S256x32x256 : Shape := ⟨3, ![256, 32, 256]⟩
abbrev S32x1152 : Shape := ⟨2, ![32, 1152]⟩
abbrev S32x128 : Shape := ⟨2, ![32, 128]⟩
abbrev S256x32 : Shape := ⟨2, ![256, 32]⟩
abbrev S32x256 : Shape := ⟨2, ![32, 256]⟩
abbrev S1x1024 : Shape := ⟨2, ![1, 1024]⟩
abbrev S1x32x1024 : Shape := ⟨3, ![1, 32, 1024]⟩
abbrev S1x1x1 : Shape := ⟨3, ![1, 1, 1]⟩
abbrev S128 : Shape := ⟨1, ![128]⟩
abbrev S1x128 : Shape := ⟨2, ![1, 128]⟩
abbrev S16x1 : Shape := ⟨2, ![16, 1]⟩

abbrev nBuf : Space → Nat
  | .hbm => 23
  | .vmem => 8
  | .smem => 2
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S1x256, .f32⟩
  | .hbm, ⟨3, _⟩ => ⟨S1x1, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1024x32, .i32⟩
  | .hbm, ⟨11, _⟩ => ⟨S32x1024, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .f32⟩
  | .hbm, ⟨19, _⟩ => ⟨S1024x32x256, .f32⟩
  | .hbm, ⟨20, _⟩ => ⟨S1x1x256, .f32⟩
  | .hbm, ⟨21, _⟩ => ⟨S16x128, .f32⟩
  | .hbm, ⟨22, _⟩ => ⟨S16x1, .f32⟩
  | .local _ .vmem, ⟨0, _⟩ => ⟨S256x32x256, .f32⟩
  | .local _ .vmem, ⟨1, _⟩ => ⟨S256x32x256, .f32⟩
  | .local _ .vmem, ⟨2, _⟩ => ⟨S1x1x256, .f32⟩
  | .local _ .vmem, ⟨3, _⟩ => ⟨S32x1024, .i32⟩
  | .local _ .vmem, ⟨4, _⟩ => ⟨S256x256, .f32⟩
  | .local _ .vmem, ⟨5, _⟩ => ⟨S16x128, .f32⟩
  | .local _ .vmem, ⟨6, _⟩ => ⟨S32x1152, .f32⟩
  | .local _ .vmem, ⟨7, _⟩ => ⟨S32x1024, .f32⟩
  | .local _ .smem, ⟨0, _⟩ => ⟨S1x1, .f32⟩
  | .local _ .smem, ⟨1, _⟩ => ⟨S1x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_11 : Index := 0#32
  let c128_i32 : BitVec 32 := 128#32
  let arg0 : BitVec 32 := BitVec.ofNat 32 (i 0).val
  let c256_i32 : BitVec 32 := 256#32
  let v16 : BitVec 32 := Scalar.muli arg0 c256_i32
  let v17 : BitVec 32 := Scalar.addi c128_i32 v16
  let v18 : Index := Scalar.indexCast v17
  ![0, v18.toNat]
def k0_cond2 (i : grid0.Coords) : BitVec 1 :=
  let arg0 : BitVec 32 := BitVec.ofNat 32 (i 0).val
  let c3_i32 : BitVec 32 := 3#32
  let v22 : BitVec 1 := Scalar.cmpi .eq arg0 c3_i32
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S256x1 : Shape := ⟨2, ![256, 1]⟩
abbrev S32768x1 : Shape := ⟨2, ![32768, 1]⟩
abbrev S_ : Shape := ⟨0, ![]⟩
abbrev S96x1 : Shape := ⟨2, ![96, 1]⟩
abbrev S32864x1 : Shape := ⟨2, ![32864, 1]⟩
abbrev S1027x32 : Shape := ⟨2, ![1027, 32]⟩
abbrev S1024x32 : Shape := ⟨2, ![1024, 32]⟩
abbrev S1024x128 : Shape := ⟨2, ![1024, 128]⟩
abbrev S1024 : Shape := ⟨1, ![1024]⟩
abbrev S128x1024 : Shape := ⟨2, ![128, 1024]⟩
abbrev S1x1024 : Shape := ⟨2, ![1, 1024]⟩
abbrev S32x1024 : Shape := ⟨2, ![32, 1024]⟩
abbrev S16x1 : Shape := ⟨2, ![16, 1]⟩
abbrev S16 : Shape := ⟨1, ![16]⟩

abbrev nBuf : Space → Nat
  | .hbm => 83
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S1x256, .f32⟩
  | .hbm, ⟨3, _⟩ => ⟨S1x1, .f32⟩
  | .hbm, ⟨4, _⟩ => ⟨S1, .f32⟩
  | .hbm, ⟨5, _⟩ => ⟨S1, .f32⟩
  | .hbm, ⟨6, _⟩ => ⟨S256x1, .f32⟩
  | .hbm, ⟨7, _⟩ => ⟨S32768x1, .f32⟩
  | .hbm, ⟨8, _⟩ => ⟨S1x1, .f32⟩
  | .hbm, ⟨9, _⟩ => ⟨S32768x1, .f32⟩
  | .hbm, ⟨10, _⟩ => ⟨S32768x1, .f32⟩
  | .hbm, ⟨11, _⟩ => ⟨S1x1, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S96x1, .f32⟩
  | .hbm, ⟨16, _⟩ => ⟨S32864x1, .f32⟩
  | .hbm, ⟨17, _⟩ => ⟨S1027x32, .f32⟩
  | .hbm, ⟨18, _⟩ => ⟨S1024x32, .f32⟩
  | .hbm, ⟨19, _⟩ => ⟨S1024x32, .f32⟩
  | .hbm, ⟨20, _⟩ => ⟨S1024x32, .f32⟩
  | .hbm, ⟨21, _⟩ => ⟨S1024x32, .f32⟩
  | .hbm, ⟨22, _⟩ => ⟨S1024x128, .f32⟩
  | .hbm, ⟨23, _⟩ => ⟨S_, .f32⟩
  | .hbm, ⟨24, _⟩ => ⟨S1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S_, .i32⟩
  | .hbm, ⟨29, _⟩ => ⟨S128x1024, .f32⟩
  | .hbm, ⟨30, _⟩ => ⟨S1x1, .f32⟩
  | .hbm, ⟨31, _⟩ => ⟨S_, .i32⟩
  | .hbm, ⟨32, _⟩ => ⟨S1024, .f32⟩
  | .hbm, ⟨33, _⟩ => ⟨S128x1024, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S1x1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1x1024, .f32⟩
  | .hbm, ⟨45, _⟩ => ⟨S_, .i32⟩
  | .hbm, ⟨46, _⟩ => ⟨S128x1024, .f32⟩
  | .hbm, ⟨47, _⟩ => ⟨S_, .i32⟩
  | .hbm, ⟨48, _⟩ => ⟨S_, .i32⟩
  | .hbm, ⟨49, _⟩ => ⟨S32x1024, .f32⟩
  | .hbm, ⟨50, _⟩ => ⟨S1024x32, .f32⟩
  | .hbm, ⟨51, _⟩ => ⟨S32768x1, .f32⟩
  | .hbm, ⟨52, _⟩ => ⟨S_, .f32⟩
  | .hbm, ⟨53, _⟩ => ⟨S16x1, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S16x1, .f32⟩
  | .hbm, ⟨63, _⟩ => ⟨S_, .i32⟩
  | .hbm, ⟨64, _⟩ => ⟨S16, .i32⟩
  | .hbm, ⟨65, _⟩ => ⟨S_, .i32⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S32768x1, .i32⟩
  | .hbm, ⟨77, _⟩ => ⟨S_, .i32⟩
  | .hbm, ⟨78, _⟩ => ⟨S32768, .i32⟩
  | .hbm, ⟨79, _⟩ => ⟨S16, .i32⟩
  | .hbm, ⟨80, _⟩ => ⟨S16, .f32⟩
  | .hbm, ⟨81, _⟩ => ⟨S16x1, .f32⟩
  | .hbm, ⟨82, _⟩ => ⟨S16x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_c : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_while0c_c_14 : Ref sig .tc := ⟨.hbm, 34, rfl⟩
abbrev main_while0c_v44 : Ref sig .tc := ⟨.hbm, 35, rfl⟩
abbrev main_while0b_call0_c : Ref sig .tc := ⟨.hbm, 36, rfl⟩
abbrev main_while0b_call0_v0 : Ref sig .tc := ⟨.hbm, 37, rfl⟩
abbrev main_while0b_v44 : Ref sig .tc := ⟨.hbm, 38, rfl⟩
abbrev main_while0b_v45 : Ref sig .tc := ⟨.hbm, 39, rfl⟩
abbrev main_while0b_v46 : Ref sig .tc := ⟨.hbm, 40, rfl⟩
abbrev main_while0b_v47 : Ref sig .tc := ⟨.hbm, 41, rfl⟩
abbrev main_while0b_v48 : Ref sig .tc := ⟨.hbm, 42, rfl⟩
abbrev main_while0b_v49 : Ref sig .tc := ⟨.hbm, 43, rfl⟩
abbrev main_while0b_call1_v0 : Ref sig .tc := ⟨.hbm, 44, rfl⟩
abbrev main_while0b_call1_c : Ref sig .tc := ⟨.hbm, 45, rfl⟩
abbrev main_while0b_v50 : Ref sig .tc := ⟨.hbm, 46, rfl⟩
abbrev main_while0b_c_14 : Ref sig .tc := ⟨.hbm, 47, rfl⟩
abbrev main_while0b_v51 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_c_3 : Ref sig .tc := ⟨.hbm, 54, rfl⟩
abbrev main_v24 : Ref sig .tc := ⟨.hbm, 55, rfl⟩
abbrev main_v25 : Ref sig .tc := ⟨.hbm, 56, rfl⟩
abbrev main_c_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_c_6 : Ref sig .tc := ⟨.hbm, 65, rfl⟩
abbrev main_call2_v0 : Ref sig .tc := ⟨.hbm, 66, rfl⟩
abbrev main_call2_v1 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩

abbrev nD : Nat := 1
abbrev τ : Topo := Topo.v7x

variable {F : FTy → Type} [FloatOps F]

abbrev main_while0_count : Scf.Loop 32 := ⟨0#32, 128#32, 1#32⟩
-- ==== BesideIdeal.lean ====
abbrev S32768x256 : Shape := ⟨2, ![32768, 256]⟩
abbrev S32768 : Shape := ⟨1, ![32768]⟩
abbrev S1x256 : Shape := ⟨2, ![1, 256]⟩
abbrev S1x1 : Shape := ⟨2, ![1, 1]⟩
abbrev S1 : Shape := ⟨1, ![1]⟩
abbrev S32768x1 : Shape := ⟨2, ![32768, 1]⟩
abbrev S_ : Shape := ⟨0, ![]⟩
abbrev S1024x32 : Shape := ⟨2, ![1024, 32]⟩
abbrev S32x1024 : Shape := ⟨2, ![32, 1024]⟩
abbrev S256x256 : Shape := ⟨2, ![256, 256]⟩
abbrev S1024x32x256 : Shape := ⟨3, ![1024, 32, 256]⟩
abbrev S1x1x256 : Shape := ⟨3, ![1, 1, 256]⟩
abbrev S16x128 : Shape := ⟨2, ![16, 128]⟩
abbrev S256x32x256 : Shape := ⟨3, ![256, 32, 256]⟩
abbrev S32x1152 : Shape := ⟨2, ![32, 1152]⟩
abbrev S32x128 : Shape := ⟨2, ![32, 128]⟩
abbrev S256x32 : Shape := ⟨2, ![256, 32]⟩
abbrev S32x256 : Shape := ⟨2, ![32, 256]⟩
abbrev S1x1024 : Shape := ⟨2, ![1, 1024]⟩
abbrev S1x32x1024 : Shape := ⟨3, ![1, 32, 1024]⟩
abbrev S1x1x1 : Shape := ⟨3, ![1, 1, 1]⟩
abbrev S128 : Shape := ⟨1, ![128]⟩
abbrev S1x128 : Shape := ⟨2, ![1, 128]⟩
abbrev S16x1 : Shape := ⟨2, ![16, 1]⟩

abbrev nBuf : Space → Nat
  | .hbm => 24
  | .vmem => 8
  | .smem => 2
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S1x256, .f32⟩
  | .hbm, ⟨3, _⟩ => ⟨S1x1, .f32⟩
  | .hbm, ⟨4, _⟩ => ⟨S1, .f32⟩
  | .hbm, ⟨5, _⟩ => ⟨S1, .f32⟩
  | .hbm, ⟨6, _⟩ => ⟨S32768x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1024x32, .i32⟩
  | .hbm, ⟨12, _⟩ => ⟨S32x1024, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S1024x32x256, .f32⟩
  | .hbm, ⟨21, _⟩ => ⟨S1x1x256, .f32⟩
  | .hbm, ⟨22, _⟩ => ⟨S16x128, .f32⟩
  | .hbm, ⟨23, _⟩ => ⟨S16x1, .f32⟩
  | .local _ .vmem, ⟨0, _⟩ => ⟨S256x32x256, .f32⟩
  | .local _ .vmem, ⟨1, _⟩ => ⟨S256x32x256, .f32⟩
  | .local _ .vmem, ⟨2, _⟩ => ⟨S1x1x256, .f32⟩
  | .local _ .vmem, ⟨3, _⟩ => ⟨S32x1024, .i32⟩
  | .local _ .vmem, ⟨4, _⟩ => ⟨S256x256, .f32⟩
  | .local _ .vmem, ⟨5, _⟩ => ⟨S16x128, .f32⟩
  | .local _ .vmem, ⟨6, _⟩ => ⟨S32x1152, .f32⟩
  | .local _ .vmem, ⟨7, _⟩ => ⟨S32x1024, .f32⟩
  | .local _ .smem, ⟨0, _⟩ => ⟨S1x1, .f32⟩
  | .local _ .smem, ⟨1, _⟩ => ⟨S1x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_11 : Index := 0#32
  let c128_i32 : BitVec 32 := 128#32
  let arg0 : BitVec 32 := BitVec.ofNat 32 (i 0).val
  let c256_i32 : BitVec 32 := 256#32
  let v16 : BitVec 32 := Scalar.muli arg0 c256_i32
  let v17 : BitVec 32 := Scalar.addi c128_i32 v16
  let v18 : Index := Scalar.indexCast v17
  ![0, v18.toNat]
def k0_cond2 (i : grid0.Coords) : BitVec 1 :=
  let arg0 : BitVec 32 := BitVec.ofNat 32 (i 0).val
  let c3_i32 : BitVec 32 := 3#32
  let v22 : BitVec 1 := Scalar.cmpi .eq arg0 c3_i32
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Proof.BodyFacts.lean ====
/-
  What the runs of the kernel body share: when its two conditionals are taken, where the
  output window is idle, and the memrefs that the body works on at a grid point.
-/
module

public import proofs.«01_k».proof.Proof.Gen.KernelIdeal.Frame
public import proofs.«01_k».proof.Proof.Gen.KernelIdeal.Skeleton
public import Idealize.ShloMosaic.Lib.Claim
public import Idealize.ShloMosaic.Lib.WholeRead
public import Idealize.ShloMosaic.Lib.ValueIdx

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S16x128 .f32 := (Memref.whole cc0_stg6_0 : Memref sig .tc .vmem S16x128 .f32).view
/-- Each window's current staging memref at point `t`, spelled as the pipeline passes it (`bodyAt0`), and its wholeness. -/
abbrev ms0_0 (t : Fin cfg0.N) : Memref sig .tc .vmem S256x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S32x1152 .f32 := Memref.whole cc0_scratch0
abbrev scM0_1 : Memref sig .tc .vmem S32x1024 .f32 := Memref.whole cc0_scratch1
/-- The scratch `arg8` the kernel carries between points, as a view: what it holds is stated through it. -/
abbrev VS0_0 : View sig .tc .vmem S32x1152 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a point stores into the pre-activations' buffer -/

/-- The 32 rows of 256 pre-activations that a point computes from its block of the tokens, the input weights, the identity matrix and the bias. -/
def slice (x0 : Vec F S256x32x256 .f32) (x1 : Vec F S1x1x256 .f32) (x3 : Vec F S256x256 .f32) (x4 : Vec F S1x1 .f32) : Vec F S32x256 .f32 :=
  k0_pay2 x0 x1 (x4 (ix2 0 0)) x3

/-- The buffer after the point's slice is stored into it. -/
def putSlice (i : grid0.Coords) (xs : Vec F S32x1152 .f32) (p : Vec F S32x256 .f32) : Vec F S32x1152 .f32 :=
  (Rect.unit (s := S32x1152) (k0_off1 i) S32x256.size (k0_off1_inb i)).overlay xs p

/-- The buffer after the first point's zeros are stored into its leading columns. -/
def putZeros (xs : Vec F S32x1152 .f32) : Vec F S32x1152 .f32 :=
  (Rect.unit (s := S32x1152) ![0, 0] S32x128.size inb_S32x1152_S32x128_0_0).overlay xs (k0_pay1 (F := F))

/-- The contents after writes are those of the earlier ones with the last laid over them. -/
theorem read_writes_overlay {s : Shape} {e : EltTy} {sp : Space} (v : View sig .tc sp s e) (f : v.ty.Contents (Elt F)) (r : Rect s)
    (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy]

/-- A whole load of a buffer reads its contents. -/
theorem readAt_whole {s : Shape} {e : EltTy} {sp : Space} {m : Memref sig .tc sp s e} (h : m.IsWhole) (X : s.Idx → Elt F e)
    {off : Fin s.rank → ℕ} (h0 : off = fun _ => 0) (inb : ∀ a, off a + s.size a ≤ s.size a) :
    View.readAt (Elt F) m.view (Rect.unit off s.size inb).toLoadRect (h.unread X) = X := by
  funext x
  rw [h.readAt_unread]
  exact congrFun (View.ld_unit_zero h0 inb X) x

/-- The one word of a 1 by 1 buffer. -/
theorem readAt_word {sp : Space} {m : Memref sig .tc sp S1x1 .f32} (h : m.IsWhole) (X : Vec F S1x1 .f32)
    (inb : ∀ a, (![0, 0] : Fin 2 → ℕ) a + S1x1.size a ≤ S1x1.size a) (j : S1x1.Idx) :
    View.readAt (Elt F) m.view (Rect.unit (s := S1x1) ![0, 0] S1x1.size inb).toLoadRect (h.unread X) j = X (ix2 0 0) := by
  rw [h.readAt_unread]
  refine congrArg X (funext fun a => ?_)
  fin_cases a <;> exact Subsingleton.elim (α := Fin 1) _ _

end Cert.KernelIdeal.Body
-- ==== Proof.BodyFirst.lean ====
/-
  The run of the kernel body at the first grid point.
-/
module

public import proofs.«01_k».proof.Proof.BodyFacts

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- The body at the first point. It writes the zeros and the point's slice into the pre-activations' buffer, over what was there, and leaves the
    output and the second scratch alone. -/
theorem runA (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : cond0_0 i) (hc1 : ¬cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs : Vec F S32x1152 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare (putSlice i (putZeros xs) (slice x0 x1 x3 x4))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
  intro E K
  · simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact HS0
    ipureintro
    rw [read_writes_overlay]
    simp only [slice, putSlice, putZeros]
    refine congrArg₂ (Rect.overlay _) ?_ ?_
    · rw [read_writes_overlay]; exact congrArg (fun X => Rect.overlay _ X _) (harg8.read_unread _)
    · congr 1
      · exact readAt_whole harg1 x0 (by funext a; fin_cases a <;> rfl) _
      · exact readAt_whole harg2 x1 (by funext a; fin_cases a <;> rfl) _
      · exact readAt_word harg5 x4 _ _
      · exact readAt_whole harg4 x3 (by funext a; fin_cases a <;> rfl) _

end Cert.KernelIdeal.Body
-- ==== Proof.BodyMiddle.lean ====
/-
  The run of the kernel body at a grid point that is neither the first nor the last.
-/
module

public import proofs.«01_k».proof.Proof.BodyFirst

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- The body at such a point. It writes the point's slice into the pre-activations' buffer, over what was there, and leaves the
    output and the second scratch alone. -/
theorem runB (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : ¬cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs : Vec F S32x1152 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare (putSlice i xs (slice x0 x1 x3 x4))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
  intro E K
  · simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact HS0
    ipureintro
    rw [read_writes_overlay]
    simp only [slice, putSlice]
    refine congrArg₂ (Rect.overlay _) (harg8.read_unread _) ?_
    · congr 1
      · exact readAt_whole harg1 x0 (by funext a; fin_cases a <;> rfl) _
      · exact readAt_whole harg2 x1 (by funext a; fin_cases a <;> rfl) _
      · exact readAt_word harg5 x4 _ _
      · exact readAt_whole harg4 x3 (by funext a; fin_cases a <;> rfl) _

end Cert.KernelIdeal.Body
-- ==== Proof.BodyLast.lean ====
/-
  The run of the kernel body at the last grid point.
-/
module

public import proofs.«01_k».proof.Proof.BodyMiddle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- The body at the last point. It writes the point's slice into the pre-activations' buffer, which then holds `xs'`, runs the recurrence over it and
    writes the output; the output's writes are the witness that the run finds, in terms of `xs'`. The last condition is asked for behind a
    trivial premise, so that the run pauses before it and the buffer's contents can be given their name. -/
noncomputable def runC (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs') :
    { LO : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs ∗ iprop((∃ d, owns (c : Thread nD τ) arg7 fullShare d) ∗ (∃ d, owns (c : Thread nD τ) arg9 fullShare d))
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs' ∗ (∃ f, arg7.view.loc (c : Thread nD τ) ↦[arg7.view.set]{fullShare} arg7.view.writes (Elt F) f LO) ∗ (∃ d, owns (c : Thread nD τ) arg9 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, HR, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    have hc1' := hc1 trivial
    have e : (arg8.view.writes (Elt F) (harg8.unread xs) [⟨Rect.unit (s := S32x1152) (k0_off1 i) S32x256.size (k0_off1_inb i), k0_pay2 (View.readAt (Elt F) arg1.view (Rect.unit (s := S256x32x256) ![0, 0, 0] S256x32x256.size inb_S256x32x256_S256x32x256_0_0_0).toLoadRect (harg1.unread x0)) (View.readAt (Elt F) arg2.view (Rect.unit (s := S1x1x256) ![0, 0, 0] S1x1x256.size inb_S1x1x256_S1x1x256_0_0_0).toLoadRect (harg2.unread x1)) (runC.sl.r c arg5 harg5 x4) (View.readAt (Elt F) arg4.view (Rect.unit (s := S256x256) ![0, 0] S256x256.size inb_S256x256_S256x256_0_0).toLoadRect (harg4.unread x3))⟩]) = harg8.unread xs' :=
      harg8.eq_unread (by
        rw [read_writes_overlay, ← hx]
        simp only [slice, putSlice]
        refine congrArg₂ (Rect.overlay _) (harg8.read_unread _) ?_
        · congr 1
          · exact readAt_whole harg1 x0 (by funext a; fin_cases a <;> rfl) _
          · exact readAt_whole harg2 x1 (by funext a; fin_cases a <;> rfl) _
          · exact readAt_word harg5 x4 _ _
          · exact readAt_whole harg4 x3 (by funext a; fin_cases a <;> rfl) _)
    rw [e]
    icases HR with ⟨⟨%d6, %f6, -, H6⟩, ⟨%ds1, %fs1, -, HS1⟩⟩
    sl_exec (disch := first | sl_exact hc1')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg8.read_unread _
      iexact HS0
    isplitl [H6]; · iexists _; iexact H6
    iexists _; iexists _; isplitr; swap; · iexact HS1
    ipureintro; rfl

end Cert.KernelIdeal.Body
-- ==== Proof.History.lean ====
/-
  The recurrence that the last grid point runs over the pre-activations' buffer, in closed form: the state of all
  the chunks after each of the 128 steps, and what each stretch of the body leaves in terms of it.
-/
module

public import proofs.«01_k».proof.Proof.BodyLast
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

/-- The pre-activations that step `s` of the recurrence reads, one for each chunk: row `s % 32` of the buffer from column `125 + s / 32` on. -/
def rowAt (A : Vec F S32x1152 .f32) (s : ℕ) : Vec F S1x1024 .f32 := fun y =>
  A (ix2 ⟨s % 32, Nat.mod_lt _ (by omega)⟩ ⟨(125 + s / 32 + (y 1).val) % 1152, Nat.mod_lt _ (by omega)⟩)

/-- The chunks' states after `s` steps from zero, at the recurrent weight `w`. -/
def stateAt (w : F .f32) (A : Vec F S32x1152 .f32) : ℕ → FVec F S1x1024 .f32
  | 0 => broadcast S1x1024 (Scalar.ofBits .f32 0x00000000#32)
  | s + 1 => tanh (addf (rowAt A s) (mulf (broadcast S1x1024 w) (stateAt w A s)))

/-- The stretch of 1024 columns of a row that a load at row `o` and column `p` reads. -/
def rowAt' (A : Vec F S32x1152 .f32) (o p : ℕ) : Vec F S1x1024 .f32 := fun y =>
  A (ix2 ⟨o % 32, Nat.mod_lt _ (by omega)⟩ ⟨(p + (y 1).val) % 1152, Nat.mod_lt _ (by omega)⟩)

/-- A load of a row's stretch is the step's row of pre-activations. -/
theorem row_read {arg8 : Memref sig .tc .vmem S32x1152 .f32} (harg8 : arg8.IsWhole) (A : Vec F S32x1152 .f32) (o p : ℕ)
    (inb : ∀ a, (![o, p] : Fin 2 → ℕ) a + (![1, 1024] : Fin 2 → ℕ) a ≤ S32x1152.size a) :
    View.readAt (Elt F) arg8.view (Rect.unit (s := S32x1152) ![o, p] ![1, 1024] inb).toLoadRect (harg8.unread A) = rowAt' A o p := by
  funext y
  rw [harg8.readAt_unread]
  have h0 : o + 1 ≤ 32 := inb 0
  have h1 : p + 1024 ≤ 1152 := inb 1
  have hy0 : (y 0).val < 1 := (y 0).isLt
  have hy1 : (y 1).val < 1024 := (y 1).isLt
  refine congrArg A (funext fun a => ?_)
  match a with
  | ⟨0, _⟩ => exact Fin.ext (by show o + 1 * (y 0).val = o % 32; omega)
  | ⟨1, _⟩ => exact Fin.ext (by show p + 1 * (y 1).val = (p + (y 1).val) % 1152; omega)

/-- The recurrent weight, as the body reads it. -/
theorem word_eq (c : Dev nD) (arg6 : Memref sig .tc .smem S1x1 .f32) (harg6 : arg6.IsWhole) (x5 : Vec F S1x1 .f32) :
    runC.sl.r_15 c arg6 harg6 x5 = x5 (ix2 0 0) := readAt_word harg6 x5 _ _

theorem state_16 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_16 c arg6 harg6 arg8 harg8 x5 xs' = addf (rowAt xs' 7) (mulf (broadcast S1x1024 (x5 (ix2 0 0))) (stateAt (x5 (ix2 0 0)) xs' 7)) := by
  simp only [runC.sl.r_16, word_eq, row_read]
  rfl

theorem state_17 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_17 c arg6 harg6 arg8 harg8 x5 xs' = stateAt (x5 (ix2 0 0)) xs' 16 := by
  simp only [runC.sl.r_17, word_eq, state_16, row_read]
  rfl

theorem state_19 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_19 c arg6 harg6 arg8 harg8 x5 xs' = stateAt (x5 (ix2 0 0)) xs' 25 := by
  simp only [runC.sl.r_19, runC.sl.r_18, word_eq, state_17, row_read]
  rfl

theorem state_20 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_20 c arg6 harg6 arg8 harg8 x5 xs' = stateAt (x5 (ix2 0 0)) xs' 33 := by
  simp only [runC.sl.r_20, word_eq, state_19, row_read]
  rfl

theorem state_23 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_23 c arg6 harg6 arg8 harg8 x5 xs' = stateAt (x5 (ix2 0 0)) xs' 42 := by
  simp only [runC.sl.r_23, runC.sl.r_21, runC.sl.r_22, word_eq, state_20, row_read]
  rfl

theorem state_25 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_25 c arg6 harg6 arg8 harg8 x5 xs' = mulf (broadcast S1x1024 (x5 (ix2 0 0))) (stateAt (x5 (ix2 0 0)) xs' 50) := by
  simp only [runC.sl.r_25, word_eq, state_23, row_read]
  rfl

theorem state_26 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_26 c arg6 harg6 arg8 harg8 x5 xs' = stateAt (x5 (ix2 0 0)) xs' 59 := by
  simp only [runC.sl.r_26, runC.sl.r_24, word_eq, state_25, row_read]
  rfl

theorem state_27 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_27 c arg6 harg6 arg8 harg8 x5 xs' = addf (rowAt xs' 67) (mulf (broadcast S1x1024 (x5 (ix2 0 0))) (stateAt (x5 (ix2 0 0)) xs' 67)) := by
  simp only [runC.sl.r_27, word_eq, state_26, row_read]
  rfl

theorem state_28 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_28 c arg6 harg6 arg8 harg8 x5 xs' = stateAt (x5 (ix2 0 0)) xs' 76 := by
  simp only [runC.sl.r_28, word_eq, state_27, row_read]
  rfl

theorem state_30 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_30 c arg6 harg6 arg8 harg8 x5 xs' = stateAt (x5 (ix2 0 0)) xs' 85 := by
  simp only [runC.sl.r_30, runC.sl.r_29, word_eq, state_28, row_read]
  rfl

theorem state_31 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_31 c arg6 harg6 arg8 harg8 x5 xs' = stateAt (x5 (ix2 0 0)) xs' 93 := by
  simp only [runC.sl.r_31, word_eq, state_30, row_read]
  rfl

theorem state_34 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_34 c arg6 harg6 arg8 harg8 x5 xs' = stateAt (x5 (ix2 0 0)) xs' 99 := by
  simp only [runC.sl.r_34, runC.sl.r_32, runC.sl.r_33, word_eq, state_31, row_read]
  rfl

theorem state_37 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_37 c arg6 harg6 arg8 harg8 x5 xs' = stateAt (x5 (ix2 0 0)) xs' 104 := by
  simp only [runC.sl.r_37, runC.sl.r_35, runC.sl.r_36, word_eq, state_34, row_read]
  rfl

theorem state_39 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_39 c arg6 harg6 arg8 harg8 x5 xs' = stateAt (x5 (ix2 0 0)) xs' 109 := by
  simp only [runC.sl.r_39, word_eq, state_37, row_read]
  rfl

theorem state_40 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_40 c arg6 harg6 arg8 harg8 x5 xs' = stateAt (x5 (ix2 0 0)) xs' 113 := by
  simp only [runC.sl.r_40, word_eq, state_39, row_read]
  rfl

theorem state_41 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_41 c arg6 harg6 arg8 harg8 x5 xs' = stateAt (x5 (ix2 0 0)) xs' 118 := by
  simp only [runC.sl.r_41, word_eq, state_40, row_read]
  rfl

theorem state_43 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_43 c arg6 harg6 arg8 harg8 x5 xs' = mulf (broadcast S1x1024 (x5 (ix2 0 0))) (stateAt (x5 (ix2 0 0)) xs' 122) := by
  simp only [runC.sl.r_43, word_eq, state_41, row_read]
  rfl

theorem state_44 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_44 c arg6 harg6 arg8 harg8 x5 xs' = stateAt (x5 (ix2 0 0)) xs' 127 := by
  simp only [runC.sl.r_44, runC.sl.r_42, word_eq, state_43, row_read]
  rfl

end Cert.KernelIdeal.Body
-- ==== Proof.Output.lean ====
/-
  What the body leaves in the output's block at the last grid point: the segments' means of the history of states.
-/
module

public import proofs.«01_k».proof.Proof.History
public import Idealize.ShloMosaic.Lib.Pipeline.Value
public import Idealize.ShloMosaic.Lib.Writes

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

/-- The states that are kept: row `r` is every chunk's state after `97 + r` steps, the one of the chunk's token `r`. -/
def history (w : F .f32) (A : Vec F S32x1152 .f32) : Vec F S32x1024 .f32 := fun y => stateAt w A (97 + (y 0).val) (ix2 0 (y 1))

/-- A stored state is its row of the history. -/
theorem history_piece (w : F .f32) (A : Vec F S32x1152 .f32) (r : ℕ) (inb : ∀ a, (![r, 0] : Fin 2 → ℕ) a + (S1x1024.size : Fin 2 → ℕ) a ≤ S32x1024.size a)
    (p : Vec F S1x1024 .f32) (hp : p = shapeCast S1x1024 (stateAt w A (97 + r)) shapeCasts_S1x1024_S1x1024) (x : S1x1024.Idx) :
    p x = history w A ((Rect.unit (s := S32x1024) ![r, 0] S1x1024.size inb).emb x) := by
  rw [hp, shapeCast_self]
  have hx0 : (x 0).val < 1 := (x 0).isLt
  have e0 : ((Rect.unit (s := S32x1024) ![r, 0] S1x1024.size inb).emb x 0).val = r := by
    show r + 1 * (x 0).val = r; omega
  have e1 : ((Rect.unit (s := S32x1024) ![r, 0] S1x1024.size inb).emb x 1) = x 1 := Fin.ext (by
    show 0 + 1 * (x 1).val = (x 1).val; omega)
  show _ = stateAt w A (97 + ((Rect.unit (s := S32x1024) ![r, 0] S1x1024.size inb).emb x 0).val) (ix2 0 ((Rect.unit (s := S32x1024) ![r, 0] S1x1024.size inb).emb x 1))
  rw [e0, e1]
  refine congrArg _ (funext fun a => ?_)
  match a with
  | ⟨0, _⟩ => exact Fin.ext (by show (x 0).val = 0; omega)
  | ⟨1, _⟩ => rfl

set_option maxHeartbeats 4000000 in
/-- Every piece of the history's buffer is the piece of `history` that its rectangle names. -/
theorem history_pieces (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    ∀ p ∈ runC.sl.HS1_32 c arg6 harg6 arg8 harg8 x5 xs', ∀ x : p.1.shape.Idx, p.2 x = history (x5 (ix2 0 0)) xs' (p.1.emb x) := by
  unfold runC.sl.HS1_32
  refine List.forall_mem_cons.2 ⟨history_piece _ _ 31 inb_S32x1024_S1x1024_31_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 30 inb_S32x1024_S1x1024_30_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 29 inb_S32x1024_S1x1024_29_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 28 inb_S32x1024_S1x1024_28_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 27 inb_S32x1024_S1x1024_27_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 26 inb_S32x1024_S1x1024_26_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 25 inb_S32x1024_S1x1024_25_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 24 inb_S32x1024_S1x1024_24_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 23 inb_S32x1024_S1x1024_23_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 22 inb_S32x1024_S1x1024_22_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 21 inb_S32x1024_S1x1024_21_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 20 inb_S32x1024_S1x1024_20_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 19 inb_S32x1024_S1x1024_19_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 18 inb_S32x1024_S1x1024_18_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 17 inb_S32x1024_S1x1024_17_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 16 inb_S32x1024_S1x1024_16_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 15 inb_S32x1024_S1x1024_15_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 14 inb_S32x1024_S1x1024_14_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 13 inb_S32x1024_S1x1024_13_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 12 inb_S32x1024_S1x1024_12_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 11 inb_S32x1024_S1x1024_11_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 10 inb_S32x1024_S1x1024_10_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 9 inb_S32x1024_S1x1024_9_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 8 inb_S32x1024_S1x1024_8_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 7 inb_S32x1024_S1x1024_7_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 6 inb_S32x1024_S1x1024_6_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 5 inb_S32x1024_S1x1024_5_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 4 inb_S32x1024_S1x1024_4_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 3 inb_S32x1024_S1x1024_3_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 2 inb_S32x1024_S1x1024_2_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 1 inb_S32x1024_S1x1024_1_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 0 inb_S32x1024_S1x1024_0_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  exact fun p hp => absurd hp List.not_mem_nil

/-- The history as the body reads it back. -/
theorem history_read (c : Dev nD) (arg6 : Memref sig .tc .smem S1x1 .f32) (harg6 : arg6.IsWhole) (arg8 : Memref sig .tc .vmem S32x1152 .f32) (harg8 : arg8.IsWhole) (arg9 : Memref sig .tc .vmem S32x1024 .f32) (x5 : Vec F S1x1 .f32) (xs' : Vec F S32x1152 .f32) :
    runC.sl.v763 c arg6 harg6 arg8 harg8 arg9 x5 xs' = history (x5 (ix2 0 0)) xs' := by
  have hcov : ∀ y : S32x1024.Idx, ∃ p ∈ runC.sl.HS1_32 c arg6 harg6 arg8 harg8 x5 xs', y ∈ p.1.set := by
    unfold runC.sl.HS1_32
    exact View.cover_of_tiledL _ ![1, 1024] (by sl_kernel_rfl)
  unfold runC.sl.v763
  have hz : (![0, 0] : Fin S32x1024.rank → ℕ) = fun _ => 0 := by funext a; fin_cases a <;> rfl
  rw [View.readCov_eq_canon_ld _ _ _ hcov, View.ld_unit_zero hz]
  exact funext fun y => View.canon_apply_of_pieces _ _ (history_pieces c arg6 harg6 arg8 harg8 x5 xs') y (hcov y)

/-- The sum of the entries of a block. -/
def blockSum (v : FVec F S32x1024 .f32) : F .f32 :=
  extractAt ![0, 0, 0] (shapeCast S1x1x1 (multiReduction .add [1, 2] S1 (shapeCast S1x32x1024 v shapeCasts_S32x1024_S1x32x1024) 0x00000000#32 reduces_S1x32x1024_S1 (.inl rfl) rfl) shapeCasts_S1_S1x1x1) inpos_S1x1x1_p0_0_0

/-- The mean of the entries of `O` at the places where `bt` is `n`. -/
def segMean (O : Vec F S32x1024 .f32) (bt : Vec F S32x1024 .i32) (n : BitVec 32) : F .f32 :=
  Scalar.divf (blockSum (select (cmpi .eq bt (broadcast S32x1024 n)) O (broadcast S32x1024 (Scalar.ofBits .f32 0x00000000#32))))
    (blockSum (sitofp .f32 (extui 32 (cmpi .eq bt (broadcast S32x1024 n)) natLt_1_32)))

/-- The output's block: row `n` is segment `n`'s mean, on every lane. -/
def outBlock (O : Vec F S32x1024 .f32) (bt : Vec F S32x1024 .i32) : Vec F S16x128 .f32 := fun y => segMean O bt (BitVec.ofNat 32 (y 0).val)

/-- A stored mean is its row of the output's block. -/
theorem out_piece (O : Vec F S32x1024 .f32) (bt : Vec F S32x1024 .i32) (r : ℕ) (inb : ∀ a, (![r, 0] : Fin 2 → ℕ) a + (S1x128.size : Fin 2 → ℕ) a ≤ S16x128.size a)
    (p : Vec F S1x128 .f32) (hp : p = shapeCast S1x128 (broadcast S128 (segMean O bt (BitVec.ofNat 32 r))) shapeCasts_S128_S1x128) (x : S1x128.Idx) :
    p x = outBlock O bt ((Rect.unit (s := S16x128) ![r, 0] S1x128.size inb).emb x) := by
  have hx0 : (x 0).val < 1 := (x 0).isLt
  have e0 : ((Rect.unit (s := S16x128) ![r, 0] S1x128.size inb).emb x 0).val = r := by
    show r + 1 * (x 0).val = r; omega
  rw [hp]
  show segMean O bt (BitVec.ofNat 32 r) = segMean O bt (BitVec.ofNat 32 ((Rect.unit (s := S16x128) ![r, 0] S1x128.size inb).emb x 0).val)
  rw [e0]

/-- The segment words, as the body reads them. -/
theorem words_eq (arg3 : Memref sig .tc .vmem S32x1024 .i32) (harg3 : arg3.IsWhole) (x2 : Vec F S32x1024 .i32) :
    View.readAt (Elt F) arg3.view (Rect.unit (s := S32x1024) ![0, 0] ![32, 1024] inb_S32x1024_S32x1024_0_0).toLoadRect (harg3.unread x2) = x2 :=
  readAt_whole harg3 x2 (by funext a; fin_cases a <;> rfl) _

theorem words_eq' (c : Dev nD) (arg3 : Memref sig .tc .vmem S32x1024 .i32) (harg3 : arg3.IsWhole) (x2 : Vec F S32x1024 .i32) :
    runC.sl.r_45 c arg3 harg3 x2 = x2 := by
  unfold runC.sl.r_45 k0_pay82
  exact (shapeCast_self _ _).trans (words_eq arg3 harg3 x2)

set_option maxHeartbeats 4000000 in
/-- Every piece of the output's block is the piece of `outBlock` that its rectangle names. -/
theorem out_pieces (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs') :
    ∀ p ∈ (runC c i arg1 harg1 arg2 harg2 arg3 harg3 arg4 harg4 arg5 harg5 arg6 harg6 arg7 harg7 arg8 harg8 arg9 harg9 hc0 hc1 x0 x1 x2 x3 x4 x5 xs xs' hx).1, ∀ x : p.1.shape.Idx, p.2 x = outBlock (history (x5 (ix2 0 0)) xs') x2 (p.1.emb x) := by
  unfold runC
  refine List.forall_mem_cons.2 ⟨out_piece _ _ 15 inb_S16x128_S1x128_15_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 14 inb_S16x128_S1x128_14_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 13 inb_S16x128_S1x128_13_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 12 inb_S16x128_S1x128_12_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 11 inb_S16x128_S1x128_11_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 10 inb_S16x128_S1x128_10_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 9 inb_S16x128_S1x128_9_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 8 inb_S16x128_S1x128_8_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 7 inb_S16x128_S1x128_7_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 6 inb_S16x128_S1x128_6_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 5 inb_S16x128_S1x128_5_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 4 inb_S16x128_S1x128_4_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 3 inb_S16x128_S1x128_3_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 2 inb_S16x128_S1x128_2_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 1 inb_S16x128_S1x128_1_0 _ (by simp only [runC.sl.r_46, runC.sl.r_47, runC.sl.r_48, runC.sl.r_49, runC.sl.r_50, runC.sl.r_51, runC.sl.r_52, runC.sl.r_53, runC.sl.r_54, history_read, words_eq', words_eq]; simp only [k0_pay87, k0_pay83, k0_pay84, k0_pay85, k0_pay86, k0_pay82, shapeCast_self]; rfl), ?_⟩
  refine List.forall_mem_cons.2 ⟨out_piece _ _ 0 inb_S16x128_S1x128_0_0 _ (by simp only [runC.sl.r_46, runC.sl.r_47, runC.sl.r_48, runC.sl.r_49, runC.sl.r_50, runC.sl.r_51, runC.sl.r_52, runC.sl.r_53, runC.sl.r_54, history_read, words_eq', words_eq]; simp only [k0_pay87, k0_pay83, k0_pay84, k0_pay85, k0_pay86, k0_pay82, shapeCast_self]; rfl), ?_⟩
  exact fun p hp => absurd hp List.not_mem_nil

/-- The output's block after the last grid point, whatever it held before. -/
theorem out_read (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs')
    (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 hc0 hc1 x0 x1 x2 x3 x4 x5 xs xs' hx).1) = outBlock (history (x5 (ix2 0 0)) xs') x2 := by
  refine funext fun y => View.read_writes_apply_of_pieces _ _ _ _ (out_pieces c i arg1 harg1 arg2 harg2 arg3 harg3 arg4 harg4 arg5 harg5 arg6 harg6 arg7 harg7 arg8 harg8 arg9 harg9 hc0 hc1 x0 x1 x2 x3 x4 x5 xs xs' hx) y ?_
  revert y
  unfold runC
  exact View.cover_of_tiledL _ ![1, 128] (by sl_kernel_rfl)

end Cert.KernelIdeal.Body
-- ==== Proof.Filled.lean ====
/-
  The grid's invariant: before point `t` the pre-activations' buffer holds the zeros and the slices of the points before `t`, and what each
  point's stores make of it.
-/
module

public import proofs.«01_k».proof.Proof.BodyFacts
public import Idealize.ShloMosaic.Lib.Writes
public import Idealize.ShloMosaic.Lib.Memref

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The slice that point `t` stores. -/
def sliceAt (c : Dev nD) (t : Fin cfg0.N) : Vec F S32x256 .f32 := slice (iblk m c 0 t) (iblk m c 1 t) (iblk m c 3 t) (iblk m c 4 t)

/-- The pre-activations' buffer when every point has stored its slice: 128 columns of zeros, then the slices side by side. -/
def filled (c : Dev nD) : Vec F S32x1152 .f32 := fun y =>
  if h : (y 1).val < 128 then k0_pay1 (F := F) (ix2 (y 0) ⟨(y 1).val, h⟩)
  else sliceAt m c ⟨((y 1).val - 128) / 256, by have := (y 1).isLt; change (y 1).val < 1152 at this; rw [show cfg0.N = 4 from N_0]; omega⟩
    (ix2 (y 0) ⟨((y 1).val - 128) % 256, Nat.mod_lt _ (by omega)⟩)

/-- What the buffer holds before point `n`, from the second point on: it is filled as far as the points before have come. -/
def FilledTo (c : Dev nD) (n : ℕ) (X : Vec F S32x1152 .f32) : Prop :=
  n ≠ 0 → ∀ y : S32x1152.Idx, (y 1).val < 128 + 256 * n → X y = filled m c y

theorem point_lt (t : Fin cfg0.N) : t.val < 4 := Nat.lt_of_lt_of_eq t.isLt N_0

theorem coord_eq (t : Fin cfg0.N) : (grid0.coords t 0).val = t.val := by
  have h : (grid0.coords t 0).val = t.val / 1 % 4 := Pipeline.Grid.coords_val t 0 (by decide) rfl
  have := point_lt t
  omega

/-- The stretch of columns that a slice takes. -/
theorem putSlice_inside (t : Fin cfg0.N) (X : Vec F S32x1152 .f32) (p : Vec F S32x256 .f32) (y : S32x1152.Idx)
    (h1 : 128 + 256 * t.val ≤ (y 1).val) (h2 : (y 1).val < 128 + 256 * (t.val + 1)) :
    putSlice (grid0.coords t) X p y = p (ix2 (y 0) ⟨(y 1).val - (128 + 256 * t.val), by omega⟩) := by
  have e : (Rect.unit (s := S32x1152) (k0_off1 (grid0.coords t)) S32x256.size (k0_off1_inb (grid0.coords t))).emb
      (ix2 (y 0) ⟨(y 1).val - (128 + 256 * t.val), by omega⟩) = y := by
    funext a
    have ho := k0_off1_eq (grid0.coords t)
    rw [coord_eq] at ho
    match a with
    | ⟨0, _⟩ => exact Fin.ext (by show k0_off1 (grid0.coords t) 0 + 1 * (y 0).val = (y 0).val; rw [ho]; show 0 + 1 * (y 0).val = _; omega)
    | ⟨1, _⟩ => exact Fin.ext (by show k0_off1 (grid0.coords t) 1 + 1 * ((y 1).val - (128 + 256 * t.val)) = (y 1).val; rw [ho]; show 256 * t.val + 128 + 1 * _ = _; omega)
  exact (congrArg (putSlice (grid0.coords t) X p) e.symm).trans (Rect.overlay_emb (Rect.unit (s := S32x1152) (k0_off1 (grid0.coords t)) S32x256.size (k0_off1_inb (grid0.coords t))) X p _)

theorem putSlice_outside (t : Fin cfg0.N) (X : Vec F S32x1152 .f32) (p : Vec F S32x256 .f32) (y : S32x1152.Idx)
    (h : (y 1).val < 128 + 256 * t.val) : putSlice (grid0.coords t) X p y = X y := by
  refine Rect.overlay_of_not_mem _ _ _ (Rect.not_mem_set_of_axis _ y 1 (256 * t.val + 128) 256 ?_ rfl rfl (Or.inl ?_))
  · show k0_off1 (grid0.coords t) 1 = _
    rw [k0_off1_eq, coord_eq]; rfl
  · omega

theorem putZeros_inside (X : Vec F S32x1152 .f32) (y : S32x1152.Idx) (h : (y 1).val < 128) :
    putZeros X y = k0_pay1 (F := F) (ix2 (y 0) ⟨(y 1).val, h⟩) := by
  have e : (Rect.unit (s := S32x1152) ![0, 0] S32x128.size inb_S32x1152_S32x128_0_0).emb (ix2 (y 0) ⟨(y 1).val, h⟩) = y := by
    funext a
    match a with
    | ⟨0, _⟩ => exact Fin.ext (by show 0 + 1 * (y 0).val = (y 0).val; omega)
    | ⟨1, _⟩ => exact Fin.ext (by show 0 + 1 * (y 1).val = (y 1).val; omega)
  exact (congrArg (putZeros X) e.symm).trans (Rect.overlay_emb (Rect.unit (s := S32x1152) ![0, 0] S32x128.size inb_S32x1152_S32x128_0_0) X (k0_pay1 (F := F)) _)

/-- A point's own stretch of the filled buffer. -/
theorem filled_inside (c : Dev nD) (t : Fin cfg0.N) (y : S32x1152.Idx)
    (h1 : 128 + 256 * t.val ≤ (y 1).val) (h2 : (y 1).val < 128 + 256 * (t.val + 1)) :
    filled m c y = sliceAt m c t (ix2 (y 0) ⟨(y 1).val - (128 + 256 * t.val), by omega⟩) := by
  unfold filled
  rw [dif_neg (by omega)]
  have e : (⟨((y 1).val - 128) / 256, by have := (y 1).isLt; change (y 1).val < 1152 at this; rw [show cfg0.N = 4 from N_0]; omega⟩ : Fin cfg0.N) = t :=
    Fin.ext (by show ((y 1).val - 128) / 256 = t.val; omega)
  rw [e]
  exact congrArg (sliceAt m c t) (congrArg (ix2 (y 0)) (Fin.ext (by show ((y 1).val - 128) % 256 = (y 1).val - (128 + 256 * t.val); omega)))

/-- The first point fills its stretch and the zeros. -/
theorem filledTo_first (c : Dev nD) (t : Fin cfg0.N) (h0 : t.val = 0) (X : Vec F S32x1152 .f32) :
    FilledTo m c (t.val + 1) (putSlice (grid0.coords t) (putZeros X) (sliceAt m c t)) := by
  intro _ y hy
  by_cases h : (y 1).val < 128
  · rw [putSlice_outside t _ _ y (by omega), putZeros_inside _ y h]
    unfold filled; rw [dif_pos h]
  · rw [putSlice_inside t _ _ y (by omega) hy, filled_inside m c t y (by omega) hy]

/-- A later point fills its stretch. -/
theorem filledTo_next (c : Dev nD) (t : Fin cfg0.N) (h0 : t.val ≠ 0) (X : Vec F S32x1152 .f32) (hX : FilledTo m c t.val X) :
    FilledTo m c (t.val + 1) (putSlice (grid0.coords t) X (sliceAt m c t)) := by
  intro _ y hy
  by_cases h : (y 1).val < 128 + 256 * t.val
  · rw [putSlice_outside t _ _ y h, hX h0 y h]
  · rw [putSlice_inside t _ _ y (by omega) hy, filled_inside m c t y (by omega) hy]

/-- After the last point it is filled. -/
theorem filledTo_last (c : Dev nD) (t : Fin cfg0.N) (h3 : t.val = 3) (X : Vec F S32x1152 .f32) (hX : FilledTo m c t.val X) :
    putSlice (grid0.coords t) X (sliceAt m c t) = filled m c :=
  funext fun y => filledTo_next m c t (by omega) X hX (by omega) y (by have := (y 1).isLt; change (y 1).val < 1152 at this; omega)

end Cert.KernelIdeal.Body
-- ==== Proof.Region.lean ====
/-
  The run of the pipeline: the proof data, the body at every point, and the frame.
-/
module

public import proofs.«01_k».proof.Proof.BodyFirst
public import proofs.«01_k».proof.Proof.BodyMiddle
public import proofs.«01_k».proof.Proof.Output
public import proofs.«01_k».proof.Proof.Filled
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's block holds after the last point. -/
def outAt (c : Dev nD) (t : Fin cfg0.N) : Vec F S16x128 .f32 := outBlock (history (iblk m c 5 t (ix2 0 0)) (filled m c)) (iblk m c 2 t)

/-- The invariant before point `n`: the pre-activations' buffer filled as far as the points before have come, the history's buffer at anything and the
    generator's register at some state. -/
def Inv (c : Dev nD) (n : ℕ) : sProp 𝕄 :=
  iprop(iprop((∃ X, iprop(⌜FilledTo m c n X⌝ ∗ owns (c : Thread nD τ) scM0_0 fullShare X)) ∗ (∃ d, owns (c : Thread nD τ) scM0_1 fullShare d)) ∗ (∃ r, prngReg c r))

/-- The proof data: the arrays as the region finds them; after the body each input's buffer at its block and the output's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  have hN : t.val < 4 := point_lt t
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  by_cases h1 : t.val % 4 = 3
  · have h0 : ¬t.val % 4 = 0 := by omega
    have hc0 : ¬cond0_0 (grid0.coords t) := fun h => h0 ((hcond0_0 t).mp h)
    have hc1 : cond0_1 (grid0.coords t) := (hcond0_1 t).mpr h1
    rw [show (dats m 0 c).leavesExact 6 t = owns (c : Thread nD τ) (ms0_6 t) fullShare ((dats m 0 c).after 6 t) from by
      unfold Dat.leavesExact; rw [liveAt0_6_C t hc0 hc1], after0_6]
    iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    have hx := filledTo_last m c t (by omega) X hX
    iapply ((runC c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 (fun _ => hc1) (iblk m c 0 t) (iblk m c 1 t) (iblk m c 2 t) (iblk m c 3 t) (iblk m c 4 t) (iblk m c 5 t) X (filled m c) hx).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [H6 HS1]
    · isplitl [H6]
      · iexists _; iexact H6
      iexact HS1
    iintro ⟨H0, H1, H2, H3, H4, H5, HS0, ⟨%f, H6⟩, HS1⟩
    isplitl [HS0 HS1 Hg]
    · isplitl [HS0 HS1]
      · isplitl [HS0]
        · iexists (filled m c)
          isplitr
          · ipureintro; exact fun _ _ _ => rfl
          iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact out_read c _ _ _ _ _ _ _ _ _ _ _ _ _ _ _ _ _ _ _ _ _ _ _ _ _ _ _ _ _ _ _
  · by_cases h0 : t.val % 4 = 0
    · have hc0 : cond0_0 (grid0.coords t) := ((hcond0_0 t).mpr h0)
      have hc1 : ¬cond0_1 (grid0.coords t) := fun h => h1 ((hcond0_1 t).mp h)
      rw [Dat.leavesExact_idle (dats m 0 c) 6 t (idleAt0_6_A t hc0 hc1) (noFlush0_6_A t hc0 hc1)]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 hc1 (iblk m c 0 t) (iblk m c 1 t) (iblk m c 2 t) (iblk m c 3 t) (iblk m c 4 t) (iblk m c 5 t) X Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HS1 Hg]
      · isplitl [HS0 HS1]
        · isplitl [HS0]
          · iexists _
            isplitr
            · ipureintro; exact filledTo_first m c t (by omega) X
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := (fun h => h0 ((hcond0_0 t).mp h))
      have hc1 : ¬cond0_1 (grid0.coords t) := fun h => h1 ((hcond0_1 t).mp h)
      rw [Dat.leavesExact_idle (dats m 0 c) 6 t (idleAt0_6_B t hc0 hc1) (noFlush0_6_B t hc0 hc1)]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 hc1 (iblk m c 0 t) (iblk m c 1 t) (iblk m c 2 t) (iblk m c 3 t) (iblk m c 4 t) (iblk m c 5 t) X Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HS1 Hg]
      · isplitl [HS0 HS1]
        · isplitl [HS0]
          · iexists _
            isplitr
            · ipureintro; exact filledTo_next m c t (by omega) X hX
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Inv m c 0 from rfl, PhiA0_eq]
  unfold Inv
  iintro ⟨⟨⟨%X, HS0⟩, HS1⟩, Hg⟩
  isplitl [HS0 HS1]
  · isplitl [HS0]
    · iexists X
      isplitr
      · ipureintro; exact fun h => absurd rfl h
      iexact HS0
    iexact HS1
  iexact Hg

/-- After the last point the invariant gives the buffers back. -/
theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨⟨⟨%X, -, HS0⟩, HS1⟩, Hg⟩
  isplitl [HS0 HS1]
  · isplitl [HS0]
    · iexists X; iexact HS0
    iexact HS1
  iexact Hg

-- `θ_run_frame_around_track`'s implicit arguments are found by unifying its conclusion with this one, which takes unfolding plain
-- definitions in a metavariable's type
set_option backward.isDefEq.respectTransparency.types false in
set_option maxHeartbeats 800000 in
/-- The launch runs to the arrays' final contents, every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arrays' final contents, from any memory with zero counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body
-- ==== Proof.Result.lean ====
/-
  The kernel's result array after the run: the first column of the block the last grid point leaves, and the arguments unchanged.
-/
module

public import proofs.«01_k».proof.Proof.Region
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal.Gen
open Idealize.ShloMosaic.ValueIdx

variable {F : FTy → Type} [FloatOps F]

variable (m : (ℓ : Loc nD τ sig) → Buf (Elt F) ℓ) (ρ : Dev nD → PrngReg)

/-- After the grid the output's array is the block of the last point. -/
theorem final_6 (c : Dev nD) : (dats m 0 c).arrAt 6 (cfgs 0).N = outAt m c t0_3 := by
  refine (dats m 0 c).arrAt_eq_of_after_last 6 t0_3 (by decide +kernel) _ fun j => ?_
  blk_simp
  rw [after0_6]

/-- The result: the first column of that block. -/
theorem result_main_v15 (c : Dev nD) : Pipeline.afterTail₀ cfgs (dats m) 0 (V0 m) [hostOps1] c main_v15
    = extractStridedSlice S16x1 ![0, 0] (outAt m c t0_3) slices_S16x128_S16x1_0_0 := by
  rw [← final_6 m c]
  unfold Pipeline.afterTail₀
  simp only [hostOps1, List.flatten_cons, List.flatten_nil, List.append_nil, StableHlo.after_cons, StableHlo.after_nil]
  rw [StableHlo.unary_result]
  refine congrArg (fun v : Vec F S16x128 .f32 => extractStridedSlice S16x1 ![0, 0] v slices_S16x128_S16x1_0_0) ?_
  exact Pipeline.withArrays_arr spec0 (by decide) c (V0 m c) (fun w => (dats m 0 c).arrAt w (cfgs 0).N) 6

/-- THE RESULT after every run, and the arguments unchanged. -/
theorem result : θ_run defs (onTc (τ := τ) (main (F := F))) ⟨m, fun _ => 0, ρ⟩ (fun r => ∀ c : Dev nD,
      r.2.mem ((c.tc : Thread nD τ).loc main_v15) = extractStridedSlice S16x1 ![0, 0] (outAt m c t0_3) slices_S16x128_S16x1_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v15 (Pipeline.mem_restRefs_of main_v15 (by decide) (by decide))).trans (result_main_v15 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_main m ρ)

end Cert.KernelIdeal.Body

end
-- ==== Proof.Spec.lean ====
/-
  The windowed recurrence and the segments' means, on extended reals: what both programs compute.
-/
module

public import Idealize.ShloMosaic.PureOps.Ideal
public import Mathlib.Algebra.BigOperators.Group.Finset.Basic

@[expose] public section

noncomputable section

namespace Cert.Spec

open Idealize.ShloMosaic

/-- Token `t`'s pre-activation: the features against the input weights, and the two biases. -/
def pre (x : Fin 32768 → Fin 256 → EReal) (wi : Fin 256 → EReal) (b1 b2 : EReal) (t : ℕ) : EReal :=
  if h : t < 32768 then (∑ d, x ⟨t, h⟩ d * wi d) + (b1 + b2) else 0

/-- The pre-activations with 96 zeros in front. -/
def padded (a : ℕ → EReal) (u : ℕ) : EReal := if u < 96 then 0 else a (u - 96)

/-- The state after `s` steps from zero over the padded pre-activations from place `32k` on. -/
def run (w : EReal) (a : ℕ → EReal) (k : ℕ) : ℕ → EReal
  | 0 => 0
  | s + 1 => Ideal.tanh (padded a (32 * k + s) + w * run w a k s)

/-- Token `t`'s state: 97 steps into its window and as many more as it is tokens into its run of 32. -/
def tok (w : EReal) (a : ℕ → EReal) (t : ℕ) : EReal := run w a (t / 32) (97 + t % 32)

/-- The sum of a segment's entries. -/
def total (seg : Fin 32768 → BitVec 32) (f : ℕ → EReal) (n : ℕ) : EReal :=
  ∑ t : Fin 32768, if seg t = BitVec.ofNat 32 n then f t.val else 0

/-- The mean of a segment's entries. -/
def mean (seg : Fin 32768 → BitVec 32) (f : ℕ → EReal) (n : ℕ) : EReal :=
  Ideal.div (total seg f n) (total seg (fun _ => 1) n)

/-- A word that compares as at least zero is not negative. -/
theorem nonneg_of_sge (b : BitVec 32) (h : IntOp.cmpi .sge b 0#32 = 1#1) : 0 ≤ b.toInt := by
  by_contra hb
  have hs : (0#32 : BitVec 32).sle b = false := by
    simp only [BitVec.sle, BitVec.toInt_zero, decide_eq_false_iff_not]
    exact hb
  have h3 : IntOp.cmpi .sge b 0#32 = 0#1 := by
    simp [IntOp.cmpi, hs]
  rw [h3] at h
  exact absurd h (by decide)

end Cert.Spec

end
-- ==== Proof.RefWindows.lean ====
/-
  The reference's pre-activations and windows over the extended reals.
-/
module

public import proofs.«01_k».proof.Proof.Gen.ReferenceIdeal.Step
public import proofs.«01_k».proof.Proof.Spec
public import Idealize.ShloMosaic.Lib.Pipeline.ValueKit

@[expose] public section

set_option maxRecDepth 16384

noncomputable section

namespace Cert.ReferenceIdeal.Windows

open Idealize.ShloMosaic Idealize.ShloMosaic.Tactic
open Cert.ReferenceIdeal Cert.ReferenceIdeal.Step

variable (x : (⟨S32768x256, .f32⟩ : BufTy).Contents (Elt Ideal)) (wi : (⟨S1x256, .f32⟩ : BufTy).Contents (Elt Ideal))
  (b1 b2 : (⟨S1, .f32⟩ : BufTy).Contents (Elt Ideal))

/-- The arguments' pre-activations. -/
def preOf : ℕ → EReal := Spec.pre (fun t d => x (ix2 t d)) (fun d => wi (ix2 0 d)) (b1 (ix1 0)) (b2 (ix1 0))

/-- The reference's pre-activations. -/
theorem v7_at (u : Fin 32768) : A_main_v7 (F := Ideal) x wi b1 b2 (ix2 u 0) = preOf x wi b1 b2 u.val := by
  unfold preOf Spec.pre
  rw [dif_pos u.isLt]
  pointwise [A_main_v7, A_main_v6, A_main_v5, A_main_v4, A_main_v3, A_main_v2, A_main_v1, A_main_v0]
  exact add_assoc _ _ _

/-- The pre-activations behind their 96 zeros. -/
theorem v9_at (u : Fin 32864) : A_main_v9 (F := Ideal) x wi b1 b2 (ix2 u 0) = Spec.padded (preOf x wi b1 b2) u.val := by
  have hu := u.isLt
  unfold A_main_v9 Spec.padded
  by_cases h : u.val < 96
  · rw [if_pos h]
    refine (concatenate_pair_apply_left 0 (K_main_v8 (F := Ideal)) (A_main_v7 (F := Ideal) x wi b1 b2) _ (ix2 u 0) rfl (ix2 (⟨u.val, h⟩ : Fin 96) 0) fun b => ?_).trans ?_
    · match b with
      | ⟨0, _⟩ => rfl
      | ⟨1, _⟩ => rfl
    · exact Ideal.ofBits_zero_f32
  · rw [if_neg h]
    refine (concatenate_pair_apply_right 0 (K_main_v8 (F := Ideal)) (A_main_v7 (F := Ideal) x wi b1 b2) _ (ix2 u 0) rfl rfl (ix2 (⟨u.val - 96, by omega⟩ : Fin 32768) 0) (fun b hb => ?_) ?_).trans (v7_at x wi b1 b2 _)
    · match b with
      | ⟨0, _⟩ => exact absurd rfl hb
      | ⟨1, _⟩ => rfl
    · show u.val - 96 + 96 = u.val
      omega

/-- The same in rows of 32. -/
theorem v10_at (r : Fin 1027) (i : Fin 32) : A_main_v10 (F := Ideal) x wi b1 b2 (ix2 r i) = Spec.padded (preOf x wi b1 b2) (32 * r.val + i.val) := by
  have hr := r.isLt
  have hi := i.isLt
  refine (shapeCast_apply _ _ _ (ix2 ⟨32 * r.val + i.val, by omega⟩ 0) ?_).trans (v9_at x wi b1 b2 _)
  rw [Shape.rowMajor_val_two, Shape.rowMajor_val_two]
  show (32 * r.val + i.val) * 1 + 0 = r.val * 32 + i.val
  omega

/-- The windows' entries, four runs of 32 side by side. -/
theorem v15_at (k : Fin 1024) (s : Fin 128) : A_main_v15 (F := Ideal) x wi b1 b2 (ix2 k s) = Spec.padded (preOf x wi b1 b2) (32 * k.val + s.val) := by
  have hk := k.isLt
  have hs := s.isLt
  have key : ∀ (q : ℕ) (hq : q < 4) (A : (⟨S1024x32, .f32⟩ : BufTy).Contents (Elt Ideal)) (hA : ∀ i : Fin 32, A (ix2 k i) = A_main_v10 (F := Ideal) x wi b1 b2 (ix2 ⟨k.val + q, by omega⟩ i))
      (i : Fin 32) (hi : q * 32 + i.val = s.val), A (ix2 k i) = Spec.padded (preOf x wi b1 b2) (32 * k.val + s.val) := by
    intro q hq A hA i hi
    rw [hA, v10_at]
    refine congrArg _ ?_
    show 32 * (k.val + q) + i.val = _
    omega
  unfold A_main_v15
  rcases (by omega : s.val / 32 = 0 ∨ s.val / 32 = 1 ∨ s.val / 32 = 2 ∨ s.val / 32 = 3) with h | h | h | h
  · refine (concatenate_apply_piece 1 _ _ (ix2 k s) 0 (by simp) S1024x32 (A_main_v11 (F := Ideal) x wi b1 b2) rfl rfl 0 rfl (ix2 k ⟨s.val % 32, Nat.mod_lt _ (by omega)⟩) (fun b hb => ?_) ?_).trans
      (key 0 (by omega) _ (fun i => extractStridedSlice_apply _ _ _ _ _ fun a => ?_) _ (by show 0 * 32 + s.val % 32 = _; omega))
    · match b with
      | ⟨0, _⟩ => rfl
      | ⟨1, _⟩ => exact absurd rfl hb
    · show 0 + s.val % 32 = s.val
      omega
    · match a with
      | ⟨0, _⟩ => show k.val + 0 = 0 + k.val; omega
      | ⟨1, _⟩ => show i.val = 0 + i.val; omega
  · refine (concatenate_apply_piece 1 _ _ (ix2 k s) 1 (by simp) S1024x32 (A_main_v12 (F := Ideal) x wi b1 b2) rfl rfl 32 rfl (ix2 k ⟨s.val % 32, Nat.mod_lt _ (by omega)⟩) (fun b hb => ?_) ?_).trans
      (key 1 (by omega) _ (fun i => extractStridedSlice_apply _ _ _ _ _ fun a => ?_) _ (by show 1 * 32 + s.val % 32 = _; omega))
    · match b with
      | ⟨0, _⟩ => rfl
      | ⟨1, _⟩ => exact absurd rfl hb
    · show 32 + s.val % 32 = s.val
      omega
    · match a with
      | ⟨0, _⟩ => show k.val + 1 = 1 + k.val; omega
      | ⟨1, _⟩ => show i.val = 0 + i.val; omega
  · refine (concatenate_apply_piece 1 _ _ (ix2 k s) 2 (by simp) S1024x32 (A_main_v13 (F := Ideal) x wi b1 b2) rfl rfl 64 rfl (ix2 k ⟨s.val % 32, Nat.mod_lt _ (by omega)⟩) (fun b hb => ?_) ?_).trans
      (key 2 (by omega) _ (fun i => extractStridedSlice_apply _ _ _ _ _ fun a => ?_) _ (by show 2 * 32 + s.val % 32 = _; omega))
    · match b with
      | ⟨0, _⟩ => rfl
      | ⟨1, _⟩ => exact absurd rfl hb
    · show 64 + s.val % 32 = s.val
      omega
    · match a with
      | ⟨0, _⟩ => show k.val + 2 = 2 + k.val; omega
      | ⟨1, _⟩ => show i.val = 0 + i.val; omega
  · refine (concatenate_apply_piece 1 _ _ (ix2 k s) 3 (by simp) S1024x32 (A_main_v14 (F := Ideal) x wi b1 b2) rfl rfl 96 rfl (ix2 k ⟨s.val % 32, Nat.mod_lt _ (by omega)⟩) (fun b hb => ?_) ?_).trans
      (key 3 (by omega) _ (fun i => extractStridedSlice_apply _ _ _ _ _ fun a => ?_) _ (by show 3 * 32 + s.val % 32 = _; omega))
    · match b with
      | ⟨0, _⟩ => rfl
      | ⟨1, _⟩ => exact absurd rfl hb
    · show 96 + s.val % 32 = s.val
      omega
    · match a with
      | ⟨0, _⟩ => show k.val + 3 = 3 + k.val; omega
      | ⟨1, _⟩ => show i.val = 0 + i.val; omega

/-- The windows, a step a row. -/
theorem v17_at (s : Fin 128) (k : Fin 1024) : A_main_v17 (F := Ideal) x wi b1 b2 (ix2 s k) = Spec.padded (preOf x wi b1 b2) (32 * k.val + s.val) := by
  refine Eq.trans ?_ (v15_at x wi b1 b2 k s)
  unfold A_main_v17
  pointwise

end Cert.ReferenceIdeal.Windows

end
-- ==== Proof.RefStates.lean ====
/-
  The reference's loop over the extended reals: the state after any number of trips, and the outputs written so far.
-/
module

public import proofs.«01_k».proof.Proof.RefWindows
public import Idealize.ShloMosaic.Lib.DynamicIndex

@[expose] public section

set_option maxRecDepth 16384

noncomputable section

namespace Cert.ReferenceIdeal.Windows

open Idealize.ShloMosaic Idealize.ShloMosaic.Tactic
open Cert.ReferenceIdeal Cert.ReferenceIdeal.Step

variable (w : (⟨S1x1, .f32⟩ : BufTy).Contents (Elt Ideal))
  (x : (⟨S32768x256, .f32⟩ : BufTy).Contents (Elt Ideal)) (wi : (⟨S1x256, .f32⟩ : BufTy).Contents (Elt Ideal))
  (b1' b2' : (⟨S1, .f32⟩ : BufTy).Contents (Elt Ideal))

/-- The states of the reference's loop. -/
def iter : ℕ → State Ideal
  | 0 => init w x wi b1' b2'
  | n + 1 => step n (iter n)

/-- No trip changes the windows. -/
theorem iter_windows : ∀ n, (iter w x wi b1' b2' n).main_v19_0 = A_main_v17 x wi b1' b2'
  | 0 => rfl
  | n + 1 => iter_windows n

/-- No trip changes the recurrent weight. -/
theorem iter_weight : ∀ n, (iter w x wi b1' b2' n).main_v19_1 = w
  | 0 => rfl
  | n + 1 => iter_weight n

/-- A trip's number, read signed. -/
theorem trip_toInt (n : ℕ) (hn : n < 128) : (BitVec.ofNat 32 n).toInt = n := by
  rw [BitVec.toInt_eq_toNat_of_lt (by rw [BitVec.toNat_ofNat]; omega), BitVec.toNat_ofNat]
  omega

/-- A trip's row of the windows. -/
theorem row_at (n : ℕ) (hn : n < 128) (s : State Ideal) (k : Fin 1024) : b2 n s (ix1 k) = s.main_v19_0 (ix2 ⟨n, hn⟩ k) := by
  have hs : S128x1024.Slices ![n, 0] S1x1024 := ⟨rfl, fun a => by
    match a with
    | ⟨0, _⟩ => show n + 1 ≤ 128; omega
    | ⟨1, _⟩ => show 0 + 1024 ≤ 1024; omega⟩
  have h : b1 n s = extractStridedSlice S1x1024 ![n, 0] s.main_v19_0 hs := by
    unfold b1
    refine Host.dynamicSlice_eq_extractStridedSlice _ _ _ _ _ _ fun a => ?_
    match a with
    | ⟨0, _⟩ => exact trip_toInt n hn
    | ⟨1, _⟩ => rfl
  unfold b2
  rw [h]
  refine (shapeCast_apply _ _ _ (ix2 0 k) ?_).trans (extractStridedSlice_apply _ _ _ _ _ fun a => ?_)
  · rw [Shape.rowMajor_val_two, Shape.rowMajor_val_one]
    show 0 * 1024 + k.val = k.val
    omega
  · match a with
    | ⟨0, _⟩ => show n = n + 0; omega
    | ⟨1, _⟩ => show k.val = 0 + k.val; omega

/-- A trip's new states. -/
theorem new_at (n : ℕ) (hn : n < 128) (s : State Ideal) (k : Fin 1024) :
    b7 n s (ix1 k) = Ideal.tanh (s.main_v19_0 (ix2 ⟨n, hn⟩ k) + s.main_v19_3 (ix1 k) * s.main_v19_1 (ix2 0 0)) := by
  rw [← row_at n hn s k]
  show Ideal.tanh (b2 n s (ix1 k) + s.main_v19_3 (ix1 k) * b4 n s (ix1 k)) = _
  refine congrArg (fun v => Ideal.tanh (b2 n s (ix1 k) + s.main_v19_3 (ix1 k) * v)) ?_
  unfold b4 b3
  pointwise

/-- The outputs after a trip: its row is the new states, the others are as they were. -/
theorem outs_at (n : ℕ) (hn : n < 128) (s : State Ideal) (r : Fin 128) (k : Fin 1024) :
    b10 n s (ix2 r k) = if r.val = n then b7 n s (ix1 k) else s.main_v19_4 (ix2 r k) := by
  have hs : S128x1024.Slices ![n, 0] S1x1024 := ⟨rfl, fun a => by
    match a with
    | ⟨0, _⟩ => show n + 1 ≤ 128; omega
    | ⟨1, _⟩ => show 0 + 1024 ≤ 1024; omega⟩
  have h : b10 n s = updateSlice s.main_v19_4 (b8 n s) ![n, 0] hs := by
    unfold b10
    refine Host.dynamicUpdateSlice_eq_updateSlice _ _ _ _ _ (fun a => ?_) _
    match a with
    | ⟨0, _⟩ =>
      show (min (max (BitVec.ofNat 32 n).toInt 0) ((128 - 1 : ℕ) : ℤ)).toNat = n
      rw [trip_toInt n hn]
      omega
    | ⟨1, _⟩ => rfl
  rw [h]
  unfold updateSlice
  by_cases hr : r.val = n
  · rw [if_pos hr, dif_pos (fun a => by
      match a with
      | ⟨0, _⟩ => show n ≤ r.val ∧ r.val < n + 1; omega
      | ⟨1, _⟩ => show 0 ≤ k.val ∧ k.val < 0 + 1024; have := k.isLt; omega)]
    unfold b8
    refine broadcastInDim_apply _ _ _ _ (ix1 k) fun a => ?_
    match a with
    | ⟨0, _⟩ => rfl
  · rw [if_neg hr, dif_neg (fun h' => hr (by
      have := h' 0
      change n ≤ r.val ∧ r.val < n + 1 at this
      omega))]

/-- The states after `n` trips are the recurrence's. -/
theorem iter_state (k : Fin 1024) : ∀ n : ℕ, n ≤ 128 → (iter w x wi b1' b2' n).main_v19_3 (ix1 k) = Spec.run (w (ix2 0 0)) (preOf x wi b1' b2') k.val n
  | 0, _ => Ideal.ofBits_zero_f32
  | n + 1, hn => by
    have ih := iter_state k n (by omega)
    show b7 n (iter w x wi b1' b2' n) (ix1 k) = Ideal.tanh _
    rw [new_at n (by omega), ih, iter_windows, iter_weight, v17_at]
    exact congrArg (fun v => Ideal.tanh (_ + v)) (mul_comm _ _)

/-- The outputs after `n` trips: the rows written hold the states. -/
theorem iter_outs (k : Fin 1024) : ∀ n : ℕ, n ≤ 128 → ∀ r : Fin 128, r.val < n →
    (iter w x wi b1' b2' n).main_v19_4 (ix2 r k) = Spec.run (w (ix2 0 0)) (preOf x wi b1' b2') k.val (r.val + 1)
  | 0, _, r, hr => absurd hr (Nat.not_lt_zero _)
  | n + 1, hn, r, hr => by
    have hs := iter_state w x wi b1' b2' k (n + 1) hn
    show b10 n (iter w x wi b1' b2' n) (ix2 r k) = _
    rw [outs_at n (by omega)]
    by_cases h : r.val = n
    · rw [if_pos h, h]; exact hs
    · rw [if_neg h]; exact iter_outs k n (by omega) r (by omega)

end Cert.ReferenceIdeal.Windows

end
-- ==== Proof.RefLoop.lean ====
/-
  The reference's run over its loop's states: what the loop is entered with, what a trip makes of it, and the result.
-/
module

public import proofs.«01_k».proof.Proof.RefStates
public import proofs.«01_k».proof.Proof.Gen.ReferenceIdeal.Run

@[expose] public section

set_option maxRecDepth 16384

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v43)

/-- The buffers a trip reads and writes are the state's fields, and the counter is the trip's number. -/
structure Carries (V : Valuation τ sig (Elt Ideal)) (s : State Ideal) (n : ℕ) : Prop where
  hidden : V (Proc.devRef .tc main_v19_3) = s.main_v19_3
  outputs : V (Proc.devRef .tc main_v19_4) = s.main_v19_4
  windows : V (Proc.devRef .tc main_v19_0) = s.main_v19_0
  weight : V (Proc.devRef .tc main_v19_1) = s.main_v19_1
  count : V (Proc.devRef .tc main_v19_2) = constantI S_ 32 (BitVec.ofNat 32 n)

variable {V : Valuation τ sig (Elt Ideal)} {s : State Ideal} {n : ℕ}

/-- A trip's new states. -/
theorem new_hidden (h : Carries V s n) : res_main_while0b_v49 V = Step.b7 n s := by
  unfold res_main_while0b_v49 Step.b7 Step.b6 Step.b5 Step.b4 Step.b3 Step.b2 Step.b1 Step.b0
  rw [h.windows, h.count, h.weight, h.hidden]
  rfl

/-- A trip's outputs: the states set at its row. -/
theorem new_outputs (h : Carries V s n) : step_main_v19_4 V = Step.b10 n s := by
  unfold step_main_v19_4 Step.b10 Step.b9 Step.b8
  rw [id_eq, new_hidden h, h.outputs, h.count]
  rfl

/-- A trip's counter: one more. -/
theorem new_count (h : Carries V s n) : step_main_v19_2 V = constantI S_ 32 (BitVec.ofNat 32 (n + 1)) := by
  unfold step_main_v19_2
  rw [id_eq, h.count]
  funext i
  exact (BitVec.ofNat_add n 1).symm

/-- A trip takes a state to the next. -/
theorem trip (h : Carries V s n) : Carries (STEP V) (step n s) (n + 1) where
  hidden := (STEP_main_v19_3 V).trans (show id (res_main_while0b_v49 V) = _ from new_hidden h)
  outputs := (STEP_main_v19_4 V).trans (new_outputs h)
  windows := (STEP_main_v19_0 V).trans h.windows
  weight := (STEP_main_v19_1 V).trans h.weight
  count := (STEP_main_v19_2 V).trans (new_count h)

variable (m : (ℓ : Loc nD τ sig) → Buf (Elt Ideal) ℓ) (c : Dev nD)

/-- The states of the loop, from a memory. -/
def states (n : ℕ) : State Ideal :=
  Windows.iter (m ((c.tc : Thread nD τ).loc main_arg3)) (m ((c.tc : Thread nD τ).loc main_arg0)) (m ((c.tc : Thread nD τ).loc main_arg2))
    (m ((c.tc : Thread nD τ).loc main_arg4)) (m ((c.tc : Thread nD τ).loc main_arg5)) n

/-- The hidden states the loop is entered with. -/
theorem entry_hidden : entryContents preI m c (Proc.devRef .tc main_v19_3) = (states m c 0).main_v19_3 := by
  simp only [entryContents, afterL_cons, afterL_nil]; after_reads_simp; rfl
/-- The outputs the loop is entered with. -/
theorem entry_outputs : entryContents preI m c (Proc.devRef .tc main_v19_4) = (states m c 0).main_v19_4 := by
  simp only [entryContents, afterL_cons, afterL_nil]; after_reads_simp; rfl
/-- The weight the loop is entered with. -/
theorem entry_weight : entryContents preI m c (Proc.devRef .tc main_v19_1) = (states m c 0).main_v19_1 := by
  simp only [entryContents, afterL_cons, afterL_nil]; after_reads_simp; rfl
/-- The counter the loop is entered with. -/
theorem entry_count : entryContents preI m c (Proc.devRef .tc main_v19_2) = constantI S_ 32 (BitVec.ofNat 32 0) := by
  simp only [entryContents, afterL_cons, afterL_nil]; after_reads_simp; rfl

/-- Piece 0 of the windows, as the operations before the loop leave it. -/
theorem entry_piece0 : upto hostOps0 (launchContents m c) 16 (Proc.devRef .tc main_v11) = Step.A_main_v11 (m ((c.tc : Thread nD τ).loc main_arg0)) (m ((c.tc : Thread nD τ).loc main_arg2)) (m ((c.tc : Thread nD τ).loc main_arg4)) (m ((c.tc : Thread nD τ).loc main_arg5)) := by
  after_reads_simp
  rfl

/-- Piece 1 of the windows, as the operations before the loop leave it. -/
theorem entry_piece1 : upto hostOps0 (launchContents m c) 16 (Proc.devRef .tc main_v12) = Step.A_main_v12 (m ((c.tc : Thread nD τ).loc main_arg0)) (m ((c.tc : Thread nD τ).loc main_arg2)) (m ((c.tc : Thread nD τ).loc main_arg4)) (m ((c.tc : Thread nD τ).loc main_arg5)) := by
  after_reads_simp
  rfl

/-- Piece 2 of the windows, as the operations before the loop leave it. -/
theorem entry_piece2 : upto hostOps0 (launchContents m c) 16 (Proc.devRef .tc main_v13) = Step.A_main_v13 (m ((c.tc : Thread nD τ).loc main_arg0)) (m ((c.tc : Thread nD τ).loc main_arg2)) (m ((c.tc : Thread nD τ).loc main_arg4)) (m ((c.tc : Thread nD τ).loc main_arg5)) := by
  after_reads_simp
  rfl

/-- Piece 3 of the windows, as the operations before the loop leave it. -/
theorem entry_piece3 : upto hostOps0 (launchContents m c) 16 (Proc.devRef .tc main_v14) = Step.A_main_v14 (m ((c.tc : Thread nD τ).loc main_arg0)) (m ((c.tc : Thread nD τ).loc main_arg2)) (m ((c.tc : Thread nD τ).loc main_arg4)) (m ((c.tc : Thread nD τ).loc main_arg5)) := by
  after_reads_simp
  rfl

/-- The windows the loop is entered with. -/
theorem entry_windows : entryContents preI m c (Proc.devRef .tc main_v19_0) = (states m c 0).main_v19_0 := by
  simp only [entryContents, afterL_cons, afterL_nil]; after_reads_simp
  rw [show upto hostOps0 (launchContents m c) 16 (Proc.devRef .tc (![main_v11, main_v12, main_v13, main_v14] 0)) = _ from entry_piece0 m c,
    show upto hostOps0 (launchContents m c) 16 (Proc.devRef .tc (![main_v11, main_v12, main_v13, main_v14] 1)) = _ from entry_piece1 m c,
    show upto hostOps0 (launchContents m c) 16 (Proc.devRef .tc (![main_v11, main_v12, main_v13, main_v14] 2)) = _ from entry_piece2 m c,
    show upto hostOps0 (launchContents m c) 16 (Proc.devRef .tc (![main_v11, main_v12, main_v13, main_v14] 3)) = _ from entry_piece3 m c]
  rfl

/-- Before trip `n` the loop carries state `n`. -/
theorem carries : ∀ n, Carries (STEP^[n] (entryContents preI m c)) (states m c n) n
  | 0 => ⟨entry_hidden m c, entry_outputs m c, entry_windows m c, entry_weight m c, entry_count m c⟩
  | n + 1 => by
    rw [Function.iterate_succ_apply']
    exact trip (carries n)

/-- The result, of the state the loop ends with. -/
theorem out_eq {V : Valuation τ sig (Elt Ideal)} {s : State Ideal} {n : ℕ} (h : Carries V s n) {a : (⟨S32768, .i32⟩ : BufTy).Contents (Elt Ideal)}
    (ha : V (Proc.devRef .tc main_arg1) = a) : out_main_v43 V = R_main_v43 s a := by
  unfold out_main_v43 R_main_v43
  rw [h.outputs, ha]

/-- THE REFERENCE'S RUN: its result is that of state 128, and the arguments are unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v43) = R_main_v43 (states m c 128) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq (carries m c 128) (iter_main_arg1 m c 128)), (h c).2⟩) (Value.run m ρ)

end Cert.ReferenceIdeal.Loop

end
-- ==== Proof.Blocks.lean ====
/-
  The blocks the body finds at a grid point, element by element, in terms of the arguments.
-/
module

public import proofs.«01_k».proof.Proof.Gen.KernelIdeal.Frame
public import Idealize.ShloMosaic.Lib.Pipeline.ValueKit

@[expose] public section

set_option maxRecDepth 16384

noncomputable section

namespace Cert.KernelIdeal.Blocks

open Idealize.ShloMosaic Idealize.ShloMosaic.TcCoe Idealize.ShloMosaic.Tactic
open Idealize.SL Idealize.SL.Sem
open Cert.KernelIdeal.Gen
variable (m : (ℓ : Loc nD τ sig) → Buf (Elt Ideal) ℓ) (c : Dev nD)

/-- Where each window's block lies. -/
theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![0, 0] ∧ t.val < 4 :=
  (by decide +kernel : ∀ t : Fin grid0.N, _)

/-- The features as the region finds them, reshaped to chunks. -/
theorem V_v12 : V m c main_v12 = shapeCast S1024x32x256 (m ((c : Thread nD τ).loc main_arg0)) shapeCasts_S32768x256_S1024x32x256 := by
  unfold V V0
  simp only [hostOps0, List.flatten_cons, List.flatten_nil, List.append_nil]
  after_results
  rfl

/-- The input weights, reshaped. -/
theorem V_v13 : V m c main_v13 = shapeCast S1x1x256 (m ((c : Thread nD τ).loc main_arg2)) shapeCasts_S1x256_S1x1x256 := by
  unfold V V0
  simp only [hostOps0, List.flatten_cons, List.flatten_nil, List.append_nil]
  after_results
  rfl

/-- The segments, reshaped to chunks and transposed. -/
theorem V_v5 : V m c main_v5 = transpose S32x1024 [1, 0] (shapeCast S1024x32 (m ((c : Thread nD τ).loc main_arg1)) shapeCasts_S32768_S1024x32) transposes_S1024x32_S32x1024_1_0 := by
  unfold V V0
  simp only [hostOps0, List.flatten_cons, List.flatten_nil, List.append_nil]
  after_results
  rfl

/-- The biases' sum. -/
theorem V_v3 : V m c main_v3 = shapeCast S1x1 (addf (F := Ideal) (φ := .f32) (shapeCast S_ (m ((c : Thread nD τ).loc main_arg4)) shapeCasts_S1_S_) (shapeCast S_ (m ((c : Thread nD τ).loc main_arg5)) shapeCasts_S1_S_)) shapeCasts_S_S1x1 := by
  unfold V V0
  simp only [hostOps0, List.flatten_cons, List.flatten_nil, List.append_nil]
  after_results
  rfl

/-- The identity matrix. -/
theorem V_v11 : V m c main_v11 = uitofp (F := Ideal) .f32 (cmpi .eq (addi (iotaInDim S256x256 32 0) (broadcastInDim S256x256 ![] bcast_S_S256x256 (constantI S_ 32 0#32))) (iotaInDim S256x256 32 1)) := by
  unfold V V0
  simp only [hostOps0, List.flatten_cons, List.flatten_nil, List.append_nil]
  after_results

/-- The features' block: chunk `256t + j`, token `i` of the chunk. -/
theorem x_block (t : Fin cfg0.N) (j : Fin 256) (i : Fin 32) (d : Fin 256) (u : Fin 32768) (hu : u.val = (256 * t.val + j.val) * 32 + i.val) :
    iblk m c 0 t (ix3 j i d) = m ((c : Thread nD τ).loc main_arg0) (ix2 u d) := by
  show V m c main_v12 (((cfg0.win 0).blk t).view.emb (ix3 j i d)) = _
  rw [V_v12]
  refine shapeCast_apply _ _ _ (ix2 u d) ?_
  rw [Shape.rowMajor_val_two, Shape.rowMajor_val_three]
  blk_simp [idx t]
  omega

/-- The input weights' block. -/
theorem w_block (t : Fin cfg0.N) (d : Fin 256) :
    iblk m c 1 t (ix3 0 0 d) = m ((c : Thread nD τ).loc main_arg2) (ix2 0 d) := by
  show V m c main_v13 (((cfg0.win 1).blk t).view.emb (ix3 0 0 d)) = _
  rw [V_v13]
  pointwise
  blk_ext [idx t]

/-- The segments' block: token `i` of chunk `k`. -/
theorem bt_block (t : Fin cfg0.N) (i : Fin 32) (k : Fin 1024) (u : Fin 32768) (hu : u.val = k.val * 32 + i.val) :
    iblk m c 2 t (ix2 i k) = m ((c : Thread nD τ).loc main_arg1) (ix1 u) := by
  show V m c main_v5 (((cfg0.win 2).blk t).view.emb (ix2 i k)) = _
  rw [V_v5]
  pointwise
  blk_ext [idx t]

/-- The recurrent weight's block. -/
theorem whh_block (t : Fin cfg0.N) :
    iblk m c 5 t (ix2 0 0) = m ((c : Thread nD τ).loc main_arg3) (ix2 0 0) := by
  blk_simp [iblk, idx t]
  entry_read
  blk_ext [idx t]

/-- The bias's block: the two biases' sum. -/
theorem bias_block (t : Fin cfg0.N) :
    iblk m c 4 t (ix2 0 0) = (show EReal from m ((c : Thread nD τ).loc main_arg4) (ix1 0)) + (show EReal from m ((c : Thread nD τ).loc main_arg5) (ix1 0)) := by
  show V m c main_v3 (((cfg0.win 4).blk t).view.emb (ix2 0 0)) = _
  rw [V_v3]
  pointwise

/-- The identity matrix's block. -/
theorem eye_block (t : Fin cfg0.N) (j k : Fin 256) :
    iblk m c 3 t (ix2 j k) = (if j = k then 1 else 0 : EReal) := by
  show V m c main_v11 (((cfg0.win 3).blk t).view.emb (ix2 j k)) = _
  rw [V_v11]
  pointwise
  blk_simp [idx t]
  show (((IntOp.cmpi CmpIPredicate.eq (IntOp.addi (BitVec.ofNat 32 ↑j) 0#32) (BitVec.ofNat 32 ↑k)).toNat : ℝ) : EReal) = _
  by_cases h : j = k
  · subst h
    simp [IntOp.cmpi, IntOp.addi]
  · have hne : BitVec.ofNat 32 j.val ≠ BitVec.ofNat 32 k.val := fun e => h (Fin.ext (by
      have e' := congrArg BitVec.toNat e
      simp only [BitVec.toNat_ofNat] at e'
      have := j.isLt; have := k.isLt
      omega))
    simp [IntOp.cmpi, IntOp.addi, h, hne]

end Cert.KernelIdeal.Blocks

end
-- ==== Proof.KernelValue.lean ====
/-
  The kernel's buffers over the extended reals: the pre-activations, the states, and the segments' means.
-/
module

public import proofs.«01_k».proof.Proof.Filled
public import proofs.«01_k».proof.Proof.Output
public import proofs.«01_k».proof.Proof.Blocks
public import proofs.«01_k».proof.Proof.Spec

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal.Gen
open Cert.KernelIdeal.Blocks

variable (m : (ℓ : Loc nD τ sig) → Buf (Elt Ideal) ℓ) (c : Dev nD)

/-- The arguments' pre-activations. -/
def preOf : ℕ → EReal := Spec.pre (fun t d => m ((c : Thread nD τ).loc main_arg0) (ix2 t d)) (fun d => m ((c : Thread nD τ).loc main_arg2) (ix2 0 d))
  (m ((c : Thread nD τ).loc main_arg4) (ix1 0)) (m ((c : Thread nD τ).loc main_arg5) (ix1 0))

/-- A point's slice: the pre-activation of token `i` of chunk `256t + j`. -/
theorem sliceAt_at (t : Fin cfg0.N) (i : Fin 32) (j : Fin 256) :
    sliceAt m c t (ix2 i j) = preOf m c ((256 * t.val + j.val) * 32 + i.val) := by
  have h4 := (idx t).2.2.2.2.2.2
  have hu : (256 * t.val + j.val) * 32 + i.val < 32768 := by omega
  unfold preOf Spec.pre
  rw [dif_pos hu]
  unfold sliceAt slice
  pointwise [k0_pay2]
  have hb : iblk m c 4 t (ValueIdx.ix2 0 0) = _ := bias_block m c t
  rw [hb]
  have he : ∀ q : Fin 256, iblk m c 3 t (ix2 q j) = (if q = j then 1 else 0 : EReal) := fun q => eye_block m c t q j
  have hx : ∀ d : Fin 256, iblk m c 0 t (ix3 j i d) = m ((c : Thread nD τ).loc main_arg0) (ix2 ⟨(256 * t.val + j.val) * 32 + i.val, hu⟩ d) :=
    fun d => x_block m c t j i d _ rfl
  have hw : ∀ d : Fin 256, iblk m c 1 t (ix3 0 0 d) = m ((c : Thread nD τ).loc main_arg2) (ix2 0 d) := fun d => w_block m c t d
  refine (Finset.sum_eq_single j (fun q _ hq => ?_) (fun h => absurd (Finset.mem_univ _) h)).trans ?_
  · rw [he, if_neg hq]; exact mul_zero _
  · rw [he, if_pos rfl]
    refine (mul_one _).trans ?_
    refine congrArg (· + _) (Finset.sum_congr rfl fun d _ => ?_)
    rw [hx, hw]

/-- The buffer where step `s` of chunk `k` reads it: the padded pre-activation `s` places past the chunk's window's start. -/
theorem rowAt_filled (s : ℕ) (hs : s < 128) (k : Fin 1024) :
    rowAt (filled m c) s (ix2 0 k) = Spec.padded (preOf m c) (32 * k.val + s) := by
  have hk := k.isLt
  have h1 : (125 + s / 32 + k.val) % 1152 = 125 + s / 32 + k.val := Nat.mod_eq_of_lt (by omega)
  show filled m c (ValueIdx.ix2 ⟨s % 32, _⟩ ⟨(125 + s / 32 + k.val) % 1152, _⟩) = _
  unfold filled Spec.padded
  by_cases h : 32 * k.val + s < 96
  · rw [dif_pos (show (125 + s / 32 + k.val) % 1152 < 128 by omega), if_pos h]
    exact Ideal.ofBits_zero_f32
  · rw [dif_neg (show ¬(125 + s / 32 + k.val) % 1152 < 128 by omega), if_neg h]
    refine (sliceAt_at m c _ _ _).trans (congrArg (preOf m c) ?_)
    show (256 * (((125 + s / 32 + k.val) % 1152 - 128) / 256) + ((125 + s / 32 + k.val) % 1152 - 128) % 256) * 32 + s % 32 = _
    rw [h1]
    omega

/-- The chunks' states are the recurrence's. -/
theorem stateAt_eq (w : EReal) (k : Fin 1024) : ∀ s : ℕ, s ≤ 128 →
    stateAt (F := Ideal) w (filled m c) s (ix2 0 k) = Spec.run w (preOf m c) k.val s
  | 0, _ => Ideal.ofBits_zero_f32
  | s + 1, hs => by
    have ih := stateAt_eq w k s (by omega)
    have hr := rowAt_filled m c s (by omega) k
    show Ideal.tanh (rowAt (filled m c) s (ix2 0 k) + w * stateAt (F := Ideal) w (filled m c) s (ix2 0 k)) = _
    rw [ih, hr]
    rfl

/-- The history at token `i` of chunk `k`. -/
theorem history_eq (w : EReal) (i : Fin 32) (k : Fin 1024) :
    history (F := Ideal) w (filled m c) (ix2 i k) = Spec.tok w (preOf m c) (32 * k.val + i.val) := by
  refine (stateAt_eq m c w k (97 + i.val) (by omega)).trans ?_
  unfold Spec.tok
  rw [show (32 * k.val + i.val) / 32 = k.val by omega, show (32 * k.val + i.val) % 32 = i.val by omega]

/-- A block's sum, as a sum over its rows and columns. -/
theorem blockSum_eq (v : FVec Ideal S32x1024 .f32) : blockSum v = ∑ i : Fin 32, ∑ k : Fin 1024, v (ix2 i k) := by
  unfold blockSum
  pointwise

/-- A sum over tokens and chunks is a sum over all tokens. -/
theorem sum_tokens (f : Fin 32 → Fin 1024 → EReal) (g : Fin 32768 → EReal) (h : ∀ i k u, u.val = k.val * 32 + i.val → f i k = g u) :
    ∑ i : Fin 32, ∑ k : Fin 1024, f i k = ∑ u : Fin 32768, g u := by
  rw [Finset.sum_comm, ← Fintype.sum_prod_type' (fun (k : Fin 1024) (i : Fin 32) => f i k)]
  refine Fintype.sum_equiv (finProdFinEquiv (m := 1024) (n := 32)) _ _ fun p => h _ _ _ ?_
  show p.2.val + 32 * p.1.val = _
  omega

/-- A word compared with another, as a choice. -/
theorem cmpi_eq_ite (a b : BitVec 32) : IntOp.cmpi .eq a b = if a = b then 1#1 else 0#1 := by
  by_cases h : a = b
  · subst h; simp [IntOp.cmpi]
  · rw [if_neg h]
    show BitVec.ofBool (a == b) = 0#1
    rw [beq_eq_false_iff_ne.mpr h]
    rfl

/-- Segment `n`'s mean in the kernel is the mean of the segment's entries. -/
theorem segMean_eq (w : EReal) (t : Fin cfg0.N) (n : ℕ) :
    segMean (F := Ideal) (history (F := Ideal) w (filled m c)) (iblk m c 2 t) (BitVec.ofNat 32 n)
      = Spec.mean (fun u => m ((c : Thread nD τ).loc main_arg1) (ix1 u)) (Spec.tok w (preOf m c)) n := by
  unfold segMean
  refine (Ideal.scalar_divf_def _ _).trans ?_
  rw [blockSum_eq, blockSum_eq]
  unfold Spec.mean Spec.total
  refine congrArg₂ Ideal.div ?_ ?_
  · refine sum_tokens _ _ fun i k u hu => ?_
    have hb := bt_block m c t i k u hu
    have hh := history_eq m c w i k
    rw [show 32 * k.val + i.val = u.val by omega] at hh
    show (if (IntOp.cmpi .eq (iblk m c 2 t (ix2 i k)) (BitVec.ofNat 32 n)) = 1#1 then history (F := Ideal) w (filled m c) (ix2 i k) else Ideal.ofBits .f32 0x00000000#32) = _
    rw [hb, hh, Ideal.ofBits_zero_f32]
    rw [cmpi_eq_ite]
    by_cases hs : m ((c : Thread nD τ).loc main_arg1) (ix1 u) = BitVec.ofNat 32 n
    · rw [if_pos hs, if_pos hs]; simp
    · rw [if_neg hs, if_neg hs]; simp
  · refine sum_tokens _ _ fun i k u hu => ?_
    have hb := bt_block m c t i k u hu
    show ((((IntOp.cmpi .eq (iblk m c 2 t (ix2 i k)) (BitVec.ofNat 32 n)).setWidth 32).toInt : ℝ) : EReal) = _
    rw [hb]
    rw [cmpi_eq_ite]
    by_cases hs : m ((c : Thread nD τ).loc main_arg1) (ix1 u) = BitVec.ofNat 32 n
    · rw [if_pos hs, if_pos hs]; simp
    · rw [if_neg hs, if_neg hs]; simp

/-- THE KERNEL'S RESULT: at segment `n` the mean, over the segment's tokens, of their windowed states. -/
theorem result_at (t : Fin cfg0.N) (i : S16x1.Idx) :
    extractStridedSlice S16x1 ![0, 0] (outBlock (history (iblk m c 5 t (ValueIdx.ix2 0 0)) (filled m c)) (iblk m c 2 t)) slices_S16x128_S16x1_0_0 i
      = Spec.mean (fun u => m ((c : Thread nD τ).loc main_arg1) (ix1 u)) (Spec.tok (m ((c : Thread nD τ).loc main_arg3) (ix2 0 0)) (preOf m c)) (i 0).val := by
  have h5 : iblk m c 5 t (ValueIdx.ix2 0 0) = m ((c : Thread nD τ).loc main_arg3) (ix2 0 0) := whh_block m c t
  rw [h5]
  refine (extractStridedSlice_apply _ _ _ _ (ix2 (i 0) 0) fun a => ?_).trans (segMean_eq m c _ t (i 0).val)
  have h1 : (i 1).val < 1 := (i 1).isLt
  match a with
  | ⟨0, _⟩ => show (i 0).val = 0 + (i 0).val; omega
  | ⟨1, _⟩ => show 0 = 0 + (i 1).val; omega

end Cert.KernelIdeal.Body

end
-- ==== Proof.RefScatter.lean ====
/-
  The reference's two scatters: where an update lands, what the sums by segment are, and what the counts are.
-/
module

public import proofs.«01_k».proof.Proof.RefStates
public import Idealize.ShloMosaic.Lib.Routing.OpsPair

@[expose] public section

set_option maxRecDepth 16384

noncomputable section

namespace Cert.ReferenceIdeal.Windows

open Idealize.ShloMosaic Idealize.ShloMosaic.Tactic
open Cert.ReferenceIdeal Cert.ReferenceIdeal.Step

variable [hReferenceIdeal : Facts]

/-- Where an update of the counts lands: at the segment its index names. -/
theorem count_lands (j : S32768.Idx) (idx : IVec S32768x1 32) (i : S16.Idx) :
    scatter_S16_S32768x1_S32768_n_0_0_1.resultIdx? j idx = some i ↔ (idx (ix2 (j 0) 0)).toInt = ((i 0).val : ℤ) := by
  have hstart : scatter_S16_S32768x1_S32768_n_0_0_1.start j idx 0 = (idx (ix2 (j 0) 0)).toInt := by
    unfold ScatterDims.start
    refine (dif_pos (show (0 : Fin 1) ∈ [(0 : Fin 1)] from List.mem_singleton.2 rfl)).trans ?_
    refine congrArg (fun y => (idx y).toInt) (funext fun b => Fin.ext ?_)
    match b with
    | ⟨0, _⟩ => rfl
    | ⟨1, _⟩ => rfl
  have hwin : scatter_S16_S32768x1_S32768_n_0_0_1.window j 0 = 0 := rfl
  rw [Routing.resultIdx?_eq_some]
  constructor
  · intro h
    have h0 := h 0
    rw [hstart, hwin] at h0
    simpa using h0
  · intro h a
    match a with
    | ⟨0, _⟩ =>
      refine Eq.trans ?_ h
      show scatter_S16_S32768x1_S32768_n_0_0_1.start j idx 0 + ((scatter_S16_S32768x1_S32768_n_0_0_1.window j 0 : ℕ) : ℤ) = _
      rw [hstart, hwin]
      simp

/-- Where an update of the sums lands: at the segment its index names. -/
theorem sum_lands (j : S32768x1.Idx) (idx : IVec S32768x1 32) (i : S16x1.Idx) :
    scatter_S16x1_S32768x1_S32768x1_1_0_0_1.resultIdx? j idx = some i ↔ (idx (ix2 (j 0) 0)).toInt = ((i 0).val : ℤ) := by
  have hstart : scatter_S16x1_S32768x1_S32768x1_1_0_0_1.start j idx 0 = (idx (ix2 (j 0) 0)).toInt := by
    unfold ScatterDims.start
    refine (dif_pos (show (0 : Fin 2) ∈ [(0 : Fin 2)] from List.mem_singleton.2 rfl)).trans ?_
    refine congrArg (fun y => (idx y).toInt) (funext fun b => Fin.ext ?_)
    match b with
    | ⟨0, _⟩ => rfl
    | ⟨1, _⟩ => rfl
  have hwin : scatter_S16x1_S32768x1_S32768x1_1_0_0_1.window j 0 = 0 := rfl
  have hstart1 : scatter_S16x1_S32768x1_S32768x1_1_0_0_1.start j idx 1 = 0 := rfl
  have hwin1 : scatter_S16x1_S32768x1_S32768x1_1_0_0_1.window j 1 = (j 1).val := rfl
  have hj : (j 1).val < 1 := (j 1).isLt
  have hi : (i 1).val < 1 := (i 1).isLt
  rw [Routing.resultIdx?_eq_some]
  constructor
  · intro h
    have h0 := h 0
    rw [hstart, hwin] at h0
    simpa using h0
  · intro h a
    match a with
    | ⟨0, _⟩ =>
      refine Eq.trans ?_ h
      show scatter_S16x1_S32768x1_S32768x1_1_0_0_1.start j idx 0 + ((scatter_S16x1_S32768x1_S32768x1_1_0_0_1.window j 0 : ℕ) : ℤ) = _
      rw [hstart, hwin]
      simp
    | ⟨1, _⟩ =>
      show scatter_S16x1_S32768x1_S32768x1_1_0_0_1.start j idx 1 + ((scatter_S16x1_S32768x1_S32768x1_1_0_0_1.window j 1 : ℕ) : ℤ) = ((i 1).val : ℤ)
      rw [hstart1, hwin1]
      omega

/-- Adding one for every entry that passes: the number of them. -/
theorem foldl_ones {α : Type} (p : α → Prop) [DecidablePred p] : ∀ (l : List α) (n : ℕ),
    l.foldl (fun a j => if p j then IntOp.addi a 1#32 else a) (BitVec.ofNat 32 n) = BitVec.ofNat 32 (n + (l.map fun j => if p j then 1 else 0).sum)
  | [], n => rfl
  | j :: l, n => by
    rw [List.foldl_cons, List.map_cons, List.sum_cons]
    by_cases h : p j
    · rw [if_pos h, if_pos h, ← Nat.add_assoc, ← foldl_ones p l (n + 1)]
      refine congrArg (fun b => l.foldl (fun a j => if p j then IntOp.addi a 1#32 else a) b) ?_
      show BitVec.ofNat 32 n + 1#32 = _
      exact (BitVec.ofNat_add n 1).symm
    · rw [if_neg h, if_neg h, Nat.zero_add, ← foldl_ones p l n]

/-- A word that is not negative names segment `n` exactly when it is `n`. -/
theorem toInt_eq_iff (b : BitVec 32) (n : ℕ) (hn : n < 16) : b.toInt = (n : ℤ) ↔ b = BitVec.ofNat 32 n := by
  constructor
  · intro h
    have := BitVec.ofInt_toInt (x := b)
    rw [← this, h]
    exact BitVec.ofInt_natCast 32 n
  · intro h
    rw [h, BitVec.toInt_eq_toNat_of_lt (by rw [BitVec.toNat_ofNat]; omega), BitVec.toNat_ofNat]
    omega

/-- THE SUMS: zeros scattered with the entries by segment. -/
theorem sums_at (idx : IVec S32768x1 32) (seg : Fin 32768 → BitVec 32) (hidx : ∀ u, idx (ix2 u 0) = seg u)
    (x0 : FVec Ideal S16x1 .f32) (hx0 : ∀ i, x0 i = (0 : EReal)) (upd : FVec Ideal S32768x1 .f32) (f : ℕ → EReal) (hf : ∀ u : Fin 32768, upd (ix2 u 0) = f u.val)
    (i : S16x1.Idx) :
    Host.scatterAdd (F := Ideal) scatter_S16x1_S32768x1_S32768x1_1_0_0_1 x0 idx upd i = Spec.total seg f (i 0).val := by
  have hi : (i 0).val < 16 := (i 0).isLt
  unfold Host.scatterAdd
  rw [Ideal.hostScatterAdd_def]
  unfold Ideal.hostScatterAdd
  rw [hx0, zero_add, Finset.sum_filter]
  unfold Spec.total
  refine Fintype.sum_equiv ⟨fun j => j 0, fun u => ix2 u 0, fun j => ?_, fun u => rfl⟩ _ _ fun j => ?_
  · funext a
    match a with
    | ⟨0, _⟩ => rfl
    | ⟨1, _⟩ => exact Fin.ext (by have : (j 1).val < 1 := (j 1).isLt; show 0 = (j 1).val; omega)
  · have hj : j = ix2 (j 0) 0 := by
      funext a
      match a with
      | ⟨0, _⟩ => rfl
      | ⟨1, _⟩ => exact Fin.ext (by have : (j 1).val < 1 := (j 1).isLt; show (j 1).val = 0; omega)
    have hl := sum_lands j idx i
    replace hl := hl.trans ((Eq.to_iff (congrArg (fun b : BitVec 32 => b.toInt = ((i 0).val : ℤ)) (hidx (j 0)))).trans (toInt_eq_iff _ _ hi))
    have hu : upd j = f (j 0).val := (congrArg upd hj).trans (hf (j 0))
    show (if _ then upd j else 0) = if seg (j 0) = BitVec.ofNat 32 (i 0).val then f (j 0).val else 0
    rw [hu]
    by_cases h : seg (j 0) = BitVec.ofNat 32 (i 0).val
    · rw [if_pos h, if_pos (hl.2 h)]
    · rw [if_neg h, if_neg fun h' => h (hl.1 h')]

/-- THE COUNTS: zeros scattered with ones by segment, read as reals. -/
theorem counts_at (idx : IVec S32768x1 32) (seg : Fin 32768 → BitVec 32) (hidx : ∀ u, idx (ix2 u 0) = seg u)
    (x0 : IVec S16 32) (hx0 : ∀ i, x0 i = 0#32) (upd : IVec S32768 32) (hu : ∀ u, upd u = 1#32) (i : S16.Idx) :
    sitofp (F := Ideal) .f32 (Host.scatter scatter_S16_S32768x1_S32768_n_0_0_1 IntOp.addi x0 idx upd) i = Spec.total seg (fun _ => 1) (i 0).val := by
  have hi : (i 0).val < 16 := (i 0).isLt
  have hc : Host.scatter scatter_S16_S32768x1_S32768_n_0_0_1 IntOp.addi x0 idx upd i
      = BitVec.ofNat 32 (∑ u : Fin 32768, if seg u = BitVec.ofNat 32 (i 0).val then 1 else 0) := by
    rw [Routing.scatter_at, hx0]
    simp only [hu]
    refine (foldl_ones (fun n => scatter_S16_S32768x1_S32768_n_0_0_1.resultIdx? (S32768.rowMajor.symm n) idx = some i) _ 0).trans ?_
    rw [Nat.zero_add, ← Fin.sum_univ_def]
    refine congrArg (BitVec.ofNat 32) ?_
    refine Fintype.sum_equiv (S32768.rowMajor.symm.trans ⟨fun j => j 0, fun u => ix1 u, fun j => ?_, fun u => rfl⟩) _ _ fun n => ?_
    · funext a
      match a with
      | ⟨0, _⟩ => rfl
    · have hl := count_lands (S32768.rowMajor.symm n) idx i
      have hl' := hl.trans ((Eq.to_iff (congrArg (fun b : BitVec 32 => b.toInt = ((i 0).val : ℤ)) (hidx (S32768.rowMajor.symm n 0)))).trans (toInt_eq_iff _ _ hi))
      exact if_congr hl' rfl rfl
  have hle : (∑ u : Fin 32768, if seg u = BitVec.ofNat 32 (i 0).val then 1 else 0) ≤ 32768 := by
    refine (Finset.sum_le_card_nsmul _ _ 1 fun u _ => ?_).trans (by simp)
    split <;> omega
  show (((Host.scatter scatter_S16_S32768x1_S32768_n_0_0_1 IntOp.addi x0 idx upd i).toInt : ℝ) : EReal) = _
  rw [hc]
  generalize hN : (∑ u : Fin 32768, if seg u = BitVec.ofNat 32 (i 0).val then 1 else 0) = N at hle ⊢
  rw [BitVec.toInt_eq_toNat_of_lt (by rw [BitVec.toNat_ofNat]; omega), BitVec.toNat_ofNat, Nat.mod_eq_of_lt (by omega)]
  unfold Spec.total
  rw [Int.cast_natCast, EReal.coe_natCast, ← hN, Nat.cast_sum]
  refine Finset.sum_congr rfl fun u _ => ?_
  split <;> simp

end Cert.ReferenceIdeal.Windows

end
-- ==== Proof.RefValue.lean ====
/-
  The reference's result: the segments' means of the windowed states.
-/
module

public import proofs.«01_k».proof.Proof.RefScatter

@[expose] public section

set_option maxRecDepth 16384

noncomputable section

namespace Cert.ReferenceIdeal.Windows

open Idealize.ShloMosaic Idealize.ShloMosaic.Tactic
open Cert.ReferenceIdeal Cert.ReferenceIdeal.Gen Cert.ReferenceIdeal.Step

/-- A word that is not negative is its maximum with zero. -/
theorem max_zero (b : BitVec 32) (h : 0 ≤ b.toInt) : IntOp.maxsi 0#32 b = b := by
  unfold IntOp.maxsi
  simp only [BitVec.sle, BitVec.slt, BitVec.toInt_zero]
  split
  · first | rfl | (exfalso; simp_all; omega)
  · rfl

/-- A word that is not negative is not moved by the wrap. -/
theorem wrap_nonneg (x a : BitVec 32) (h : 0 ≤ x.toInt) : Scalar.select (IntOp.cmpi .slt x 0#32) a x = x := by
  refine Routing.wrap_of_lt x a ?_
  rw [BitVec.toInt_eq_toNat_cond] at h
  have := x.isLt
  split at h <;> omega

variable (w : (⟨S1x1, .f32⟩ : BufTy).Contents (Elt Ideal))
  (x : (⟨S32768x256, .f32⟩ : BufTy).Contents (Elt Ideal)) (wi : (⟨S1x256, .f32⟩ : BufTy).Contents (Elt Ideal))
  (b1' b2' : (⟨S1, .f32⟩ : BufTy).Contents (Elt Ideal))

/-- THE REFERENCE'S RESULT at an index. -/
theorem result_at (seg : (⟨S32768, .i32⟩ : BufTy).Contents (Elt Ideal)) (hseg : ∀ u : Fin 32768, 0 ≤ (seg (ix1 u)).toInt) (i : S16x1.Idx) :
    R_main_v43 (iter w x wi b1' b2' 128) seg i
      = Spec.mean (fun u => seg (ix1 u)) (Spec.tok (w (ix2 0 0)) (preOf x wi b1' b2')) (i 0).val := by
  unfold R_main_v43 Spec.mean
  refine (Ideal.hostDivf_def _ _).trans (congrArg₂ Ideal.div ?_ ?_)
  · refine sums_at _ _ (fun u => ?_) _ (fun j => ?_) _ _ (fun u => ?_) i
    · pointwise
      exact wrap_nonneg _ _ (hseg u)
    · pointwise
    · refine (shapeCast_apply _ _ _ (ix2 ⟨u.val / 32, by omega⟩ ⟨u.val % 32, by omega⟩) ?_).trans ?_
      · rw [Shape.rowMajor_val_two, Shape.rowMajor_val_two]
        show u.val / 32 * 32 + u.val % 32 = u.val * 1 + 0
        omega
      · refine Eq.trans ?_ (iter_outs w x wi b1' b2' ⟨u.val / 32, by omega⟩ 128 le_rfl ⟨96 + u.val % 32, by omega⟩ (by show 96 + u.val % 32 < 128; omega) |>.trans ?_)
        · pointwise
        · unfold Spec.tok
          refine congrArg (Spec.run _ _ _) ?_
          show 96 + u.val % 32 + 1 = 97 + u.val % 32
          omega
  · refine Eq.trans ?_ (counts_at (broadcastInDim S32768x1 ![0] bcast_S32768_S32768x1_0 (select (cmpi .slt (maxsi (broadcastInDim S32768 ![] bcast_S_S32768 (id (constantI S_ 32 0#32))) seg) (broadcastInDim S32768 ![] bcast_S_S32768 (constantI S_ 32 0#32))) (addi (maxsi (broadcastInDim S32768 ![] bcast_S_S32768 (id (constantI S_ 32 0#32))) seg) (broadcastInDim S32768 ![] bcast_S_S32768 (constantI S_ 32 16#32))) (maxsi (broadcastInDim S32768 ![] bcast_S_S32768 (id (constantI S_ 32 0#32))) seg)))
      (fun u => seg (ix1 u)) (fun u => ?_) (broadcastInDim S16 ![] bcast_S_S16 (constantI S_ 32 0#32)) (fun j => ?_) (broadcastInDim S32768 ![] bcast_S_S32768 (constantI S_ 32 1#32)) (fun j => ?_) (ix1 (i 0)))
    · pointwise
    · pointwise
      show Scalar.select (IntOp.cmpi .slt (IntOp.maxsi 0#32 (seg (ix1 u))) 0#32) _ (IntOp.maxsi 0#32 (seg (ix1 u))) = _
      rw [max_zero _ (hseg u)]
      exact wrap_nonneg _ _ (hseg u)
    · pointwise
    · pointwise

end Cert.ReferenceIdeal.Windows

end
-- ==== Proof.Equal.lean ====
/-
  The two programs' results are one value: the segments' means of the windowed states.
-/
module

public import proofs.«01_k».proof.Defs
public import proofs.«01_k».proof.Proof.KernelValue
public import proofs.«01_k».proof.Proof.Result
public import proofs.«01_k».proof.Proof.RefValue
public import proofs.«01_k».proof.Proof.RefLoop

@[expose] public section

set_option maxRecDepth 16384

noncomputable section

namespace Cert.Equal

open Idealize.ShloMosaic Idealize.ShloMosaic.Tactic Idealize.SL.Sem

/-- The precondition's shape fact. -/
instance pre_facts : Cert.Pre_batch_not_negative.Facts := ⟨by decide⟩

/-- The precondition, entry by entry. -/
theorem nonneg (m : (ℓ : Loc Cert.KernelIdeal.nD Cert.KernelIdeal.τ Cert.KernelIdeal.sig) → Buf (Elt Ideal) ℓ)
    (h : Cert.Pre_KernelIdeal_batch_not_negative m) (c : Dev Cert.KernelIdeal.nD) (u : Fin 32768) :
    0 ≤ ((m ((c.tc : Thread Cert.KernelIdeal.nD Cert.KernelIdeal.τ).loc Cert.KernelIdeal.main_arg1) (ix1 u) : BitVec 32)).toInt :=
  Cert.Spec.nonneg_of_sge _ (congrFun (h c) (ix1 u))

/-- From memories that agree on the arguments, the reference's result is the kernel's. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_batch_not_negative m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Step.R_main_v43 (Cert.ReferenceIdeal.Loop.states m' c 128) (m' ((c.tc : Thread Cert.ReferenceIdeal.nD Cert.ReferenceIdeal.τ).loc Cert.ReferenceIdeal.main_arg1))
      = extractStridedSlice Cert.KernelIdeal.S16x1 ![0, 0] (Cert.KernelIdeal.Body.outAt m c Cert.KernelIdeal.Gen.t0_3) Cert.KernelIdeal.Gen.slices_S16x128_S16x1_0_0 := by
  unfold Cert.ReferenceIdeal.Loop.states
  rw [e0, e1, e2, e3, e4, e5]
  funext i
  exact (Cert.ReferenceIdeal.Windows.result_at _ _ _ _ _ _ (nonneg m hp c) i).trans (Cert.KernelIdeal.Body.result_at m c Cert.KernelIdeal.Gen.t0_3 i).symm

end Cert.Equal

end
-- ==== Proof.Beside.BodyFacts.lean ====
/-
  What the runs of the kernel body share: when its two conditionals are taken, where the
  output window is idle, and the memrefs that the body works on at a grid point.
-/
module

public import proofs.«01_k».proof.Proof.Gen.BesideIdeal.Frame
public import proofs.«01_k».proof.Proof.Gen.BesideIdeal.Skeleton
public import Idealize.ShloMosaic.Lib.Claim
public import Idealize.ShloMosaic.Lib.WholeRead
public import Idealize.ShloMosaic.Lib.ValueIdx

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S16x128 .f32 := (Memref.whole cc0_stg6_0 : Memref sig .tc .vmem S16x128 .f32).view
/-- Each window's current staging memref at point `t`, spelled as the pipeline passes it (`bodyAt0`), and its wholeness. -/
abbrev ms0_0 (t : Fin cfg0.N) : Memref sig .tc .vmem S256x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S32x1152 .f32 := Memref.whole cc0_scratch0
abbrev scM0_1 : Memref sig .tc .vmem S32x1024 .f32 := Memref.whole cc0_scratch1
/-- The scratch `arg8` the kernel carries between points, as a view: what it holds is stated through it. -/
abbrev VS0_0 : View sig .tc .vmem S32x1152 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a point stores into the pre-activations' buffer -/

/-- The 32 rows of 256 pre-activations that a point computes from its block of the tokens, the input weights, the identity matrix and the bias. -/
def slice (x0 : Vec F S256x32x256 .f32) (x1 : Vec F S1x1x256 .f32) (x3 : Vec F S256x256 .f32) (x4 : Vec F S1x1 .f32) : Vec F S32x256 .f32 :=
  k0_pay2 x0 x1 (x4 (ix2 0 0)) x3

/-- The buffer after the point's slice is stored into it. -/
def putSlice (i : grid0.Coords) (xs : Vec F S32x1152 .f32) (p : Vec F S32x256 .f32) : Vec F S32x1152 .f32 :=
  (Rect.unit (s := S32x1152) (k0_off1 i) S32x256.size (k0_off1_inb i)).overlay xs p

/-- The buffer after the first point's zeros are stored into its leading columns. -/
def putZeros (xs : Vec F S32x1152 .f32) : Vec F S32x1152 .f32 :=
  (Rect.unit (s := S32x1152) ![0, 0] S32x128.size inb_S32x1152_S32x128_0_0).overlay xs (k0_pay1 (F := F))

/-- The contents after writes are those of the earlier ones with the last laid over them. -/
theorem read_writes_overlay {s : Shape} {e : EltTy} {sp : Space} (v : View sig .tc sp s e) (f : v.ty.Contents (Elt F)) (r : Rect s)
    (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy]

/-- A whole load of a buffer reads its contents. -/
theorem readAt_whole {s : Shape} {e : EltTy} {sp : Space} {m : Memref sig .tc sp s e} (h : m.IsWhole) (X : s.Idx → Elt F e)
    {off : Fin s.rank → ℕ} (h0 : off = fun _ => 0) (inb : ∀ a, off a + s.size a ≤ s.size a) :
    View.readAt (Elt F) m.view (Rect.unit off s.size inb).toLoadRect (h.unread X) = X := by
  funext x
  rw [h.readAt_unread]
  exact congrFun (View.ld_unit_zero h0 inb X) x

/-- The one word of a 1 by 1 buffer. -/
theorem readAt_word {sp : Space} {m : Memref sig .tc sp S1x1 .f32} (h : m.IsWhole) (X : Vec F S1x1 .f32)
    (inb : ∀ a, (![0, 0] : Fin 2 → ℕ) a + S1x1.size a ≤ S1x1.size a) (j : S1x1.Idx) :
    View.readAt (Elt F) m.view (Rect.unit (s := S1x1) ![0, 0] S1x1.size inb).toLoadRect (h.unread X) j = X (ix2 0 0) := by
  rw [h.readAt_unread]
  refine congrArg X (funext fun a => ?_)
  fin_cases a <;> exact Subsingleton.elim (α := Fin 1) _ _

end Cert.BesideIdeal.Body
-- ==== Proof.Beside.Filled.lean ====
/-
  The grid's invariant: before point `t` the pre-activations' buffer holds the zeros and the slices of the points before `t`, and what each
  point's stores make of it.
-/
module

public import proofs.«01_k».proof.Proof.Beside.BodyFacts
public import Idealize.ShloMosaic.Lib.Writes
public import Idealize.ShloMosaic.Lib.Memref

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The slice that point `t` stores. -/
def sliceAt (c : Dev nD) (t : Fin cfg0.N) : Vec F S32x256 .f32 := slice (iblk m c 0 t) (iblk m c 1 t) (iblk m c 3 t) (iblk m c 4 t)

/-- The pre-activations' buffer when every point has stored its slice: 128 columns of zeros, then the slices side by side. -/
def filled (c : Dev nD) : Vec F S32x1152 .f32 := fun y =>
  if h : (y 1).val < 128 then k0_pay1 (F := F) (ix2 (y 0) ⟨(y 1).val, h⟩)
  else sliceAt m c ⟨((y 1).val - 128) / 256, by have := (y 1).isLt; change (y 1).val < 1152 at this; rw [show cfg0.N = 4 from N_0]; omega⟩
    (ix2 (y 0) ⟨((y 1).val - 128) % 256, Nat.mod_lt _ (by omega)⟩)

/-- What the buffer holds before point `n`, from the second point on: it is filled as far as the points before have come. -/
def FilledTo (c : Dev nD) (n : ℕ) (X : Vec F S32x1152 .f32) : Prop :=
  n ≠ 0 → ∀ y : S32x1152.Idx, (y 1).val < 128 + 256 * n → X y = filled m c y

theorem point_lt (t : Fin cfg0.N) : t.val < 4 := Nat.lt_of_lt_of_eq t.isLt N_0

theorem coord_eq (t : Fin cfg0.N) : (grid0.coords t 0).val = t.val := by
  have h : (grid0.coords t 0).val = t.val / 1 % 4 := Pipeline.Grid.coords_val t 0 (by decide) rfl
  have := point_lt t
  omega

/-- The stretch of columns that a slice takes. -/
theorem putSlice_inside (t : Fin cfg0.N) (X : Vec F S32x1152 .f32) (p : Vec F S32x256 .f32) (y : S32x1152.Idx)
    (h1 : 128 + 256 * t.val ≤ (y 1).val) (h2 : (y 1).val < 128 + 256 * (t.val + 1)) :
    putSlice (grid0.coords t) X p y = p (ix2 (y 0) ⟨(y 1).val - (128 + 256 * t.val), by omega⟩) := by
  have e : (Rect.unit (s := S32x1152) (k0_off1 (grid0.coords t)) S32x256.size (k0_off1_inb (grid0.coords t))).emb
      (ix2 (y 0) ⟨(y 1).val - (128 + 256 * t.val), by omega⟩) = y := by
    funext a
    have ho := k0_off1_eq (grid0.coords t)
    rw [coord_eq] at ho
    match a with
    | ⟨0, _⟩ => exact Fin.ext (by show k0_off1 (grid0.coords t) 0 + 1 * (y 0).val = (y 0).val; rw [ho]; show 0 + 1 * (y 0).val = _; omega)
    | ⟨1, _⟩ => exact Fin.ext (by show k0_off1 (grid0.coords t) 1 + 1 * ((y 1).val - (128 + 256 * t.val)) = (y 1).val; rw [ho]; show 256 * t.val + 128 + 1 * _ = _; omega)
  exact (congrArg (putSlice (grid0.coords t) X p) e.symm).trans (Rect.overlay_emb (Rect.unit (s := S32x1152) (k0_off1 (grid0.coords t)) S32x256.size (k0_off1_inb (grid0.coords t))) X p _)

theorem putSlice_outside (t : Fin cfg0.N) (X : Vec F S32x1152 .f32) (p : Vec F S32x256 .f32) (y : S32x1152.Idx)
    (h : (y 1).val < 128 + 256 * t.val) : putSlice (grid0.coords t) X p y = X y := by
  refine Rect.overlay_of_not_mem _ _ _ (Rect.not_mem_set_of_axis _ y 1 (256 * t.val + 128) 256 ?_ rfl rfl (Or.inl ?_))
  · show k0_off1 (grid0.coords t) 1 = _
    rw [k0_off1_eq, coord_eq]; rfl
  · omega

theorem putZeros_inside (X : Vec F S32x1152 .f32) (y : S32x1152.Idx) (h : (y 1).val < 128) :
    putZeros X y = k0_pay1 (F := F) (ix2 (y 0) ⟨(y 1).val, h⟩) := by
  have e : (Rect.unit (s := S32x1152) ![0, 0] S32x128.size inb_S32x1152_S32x128_0_0).emb (ix2 (y 0) ⟨(y 1).val, h⟩) = y := by
    funext a
    match a with
    | ⟨0, _⟩ => exact Fin.ext (by show 0 + 1 * (y 0).val = (y 0).val; omega)
    | ⟨1, _⟩ => exact Fin.ext (by show 0 + 1 * (y 1).val = (y 1).val; omega)
  exact (congrArg (putZeros X) e.symm).trans (Rect.overlay_emb (Rect.unit (s := S32x1152) ![0, 0] S32x128.size inb_S32x1152_S32x128_0_0) X (k0_pay1 (F := F)) _)

/-- A point's own stretch of the filled buffer. -/
theorem filled_inside (c : Dev nD) (t : Fin cfg0.N) (y : S32x1152.Idx)
    (h1 : 128 + 256 * t.val ≤ (y 1).val) (h2 : (y 1).val < 128 + 256 * (t.val + 1)) :
    filled m c y = sliceAt m c t (ix2 (y 0) ⟨(y 1).val - (128 + 256 * t.val), by omega⟩) := by
  unfold filled
  rw [dif_neg (by omega)]
  have e : (⟨((y 1).val - 128) / 256, by have := (y 1).isLt; change (y 1).val < 1152 at this; rw [show cfg0.N = 4 from N_0]; omega⟩ : Fin cfg0.N) = t :=
    Fin.ext (by show ((y 1).val - 128) / 256 = t.val; omega)
  rw [e]
  exact congrArg (sliceAt m c t) (congrArg (ix2 (y 0)) (Fin.ext (by show ((y 1).val - 128) % 256 = (y 1).val - (128 + 256 * t.val); omega)))

/-- The first point fills its stretch and the zeros. -/
theorem filledTo_first (c : Dev nD) (t : Fin cfg0.N) (h0 : t.val = 0) (X : Vec F S32x1152 .f32) :
    FilledTo m c (t.val + 1) (putSlice (grid0.coords t) (putZeros X) (sliceAt m c t)) := by
  intro _ y hy
  by_cases h : (y 1).val < 128
  · rw [putSlice_outside t _ _ y (by omega), putZeros_inside _ y h]
    unfold filled; rw [dif_pos h]
  · rw [putSlice_inside t _ _ y (by omega) hy, filled_inside m c t y (by omega) hy]

/-- A later point fills its stretch. -/
theorem filledTo_next (c : Dev nD) (t : Fin cfg0.N) (h0 : t.val ≠ 0) (X : Vec F S32x1152 .f32) (hX : FilledTo m c t.val X) :
    FilledTo m c (t.val + 1) (putSlice (grid0.coords t) X (sliceAt m c t)) := by
  intro _ y hy
  by_cases h : (y 1).val < 128 + 256 * t.val
  · rw [putSlice_outside t _ _ y h, hX h0 y h]
  · rw [putSlice_inside t _ _ y (by omega) hy, filled_inside m c t y (by omega) hy]

/-- After the last point it is filled. -/
theorem filledTo_last (c : Dev nD) (t : Fin cfg0.N) (h3 : t.val = 3) (X : Vec F S32x1152 .f32) (hX : FilledTo m c t.val X) :
    putSlice (grid0.coords t) X (sliceAt m c t) = filled m c :=
  funext fun y => filledTo_next m c t (by omega) X hX (by omega) y (by have := (y 1).isLt; change (y 1).val < 1152 at this; omega)

end Cert.BesideIdeal.Body
-- ==== Proof.Beside.BodyFirst.lean ====
/-
  The run of the kernel body at the first grid point.
-/
module

public import proofs.«01_k».proof.Proof.Beside.BodyFacts

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

set_option maxHeartbeats 2000000 in
/-- The body at the first point. It writes the zeros and the point's slice into the pre-activations' buffer, over what was there, and leaves the
    output and the second scratch alone. -/
theorem runA (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : cond0_0 i) (hc1 : ¬cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs : Vec F S32x1152 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare (putSlice i (putZeros xs) (slice x0 x1 x3 x4))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
  intro E K
  · simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact HS0
    ipureintro
    rw [read_writes_overlay]
    simp only [slice, putSlice, putZeros]
    refine congrArg₂ (Rect.overlay _) ?_ ?_
    · rw [read_writes_overlay]; exact congrArg (fun X => Rect.overlay _ X _) (harg8.read_unread _)
    · congr 1
      · exact readAt_whole harg1 x0 (by funext a; fin_cases a <;> rfl) _
      · exact readAt_whole harg2 x1 (by funext a; fin_cases a <;> rfl) _
      · exact readAt_word harg5 x4 _ _
      · exact readAt_whole harg4 x3 (by funext a; fin_cases a <;> rfl) _

end Cert.BesideIdeal.Body
-- ==== Proof.Beside.BodyMiddle.lean ====
/-
  The run of the kernel body at a grid point that is neither the first nor the last.
-/
module

public import proofs.«01_k».proof.Proof.Beside.BodyFirst

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

set_option maxHeartbeats 2000000 in
/-- The body at such a point. It writes the point's slice into the pre-activations' buffer, over what was there, and leaves the
    output and the second scratch alone. -/
theorem runB (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : ¬cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs : Vec F S32x1152 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare (putSlice i xs (slice x0 x1 x3 x4))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
  intro E K
  · simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact HS0
    ipureintro
    rw [read_writes_overlay]
    simp only [slice, putSlice]
    refine congrArg₂ (Rect.overlay _) (harg8.read_unread _) ?_
    · congr 1
      · exact readAt_whole harg1 x0 (by funext a; fin_cases a <;> rfl) _
      · exact readAt_whole harg2 x1 (by funext a; fin_cases a <;> rfl) _
      · exact readAt_word harg5 x4 _ _
      · exact readAt_whole harg4 x3 (by funext a; fin_cases a <;> rfl) _

end Cert.BesideIdeal.Body
-- ==== Proof.Beside.BodyLast.lean ====
/-
  The run of the kernel body at the last grid point.
-/
module

public import proofs.«01_k».proof.Proof.Beside.BodyMiddle

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

set_option maxHeartbeats 2000000 in
/-- The body at the last point. It writes the point's slice into the pre-activations' buffer, which then holds `xs'`, runs the recurrence over it and
    writes the output; the output's writes are the witness that the run finds, in terms of `xs'`. The last condition is asked for behind a
    trivial premise, so that the run pauses before it and the buffer's contents can be given their name. -/
noncomputable def runC (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs') :
    { LO : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs ∗ iprop((∃ d, owns (c : Thread nD τ) arg7 fullShare d) ∗ (∃ d, owns (c : Thread nD τ) arg9 fullShare d))
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare xs' ∗ (∃ f, arg7.view.loc (c : Thread nD τ) ↦[arg7.view.set]{fullShare} arg7.view.writes (Elt F) f LO) ∗ (∃ d, owns (c : Thread nD τ) arg9 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, HR, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    have hc1' := hc1 trivial
    have e : (arg8.view.writes (Elt F) (harg8.unread xs) [⟨Rect.unit (s := S32x1152) (k0_off1 i) S32x256.size (k0_off1_inb i), k0_pay2 (View.readAt (Elt F) arg1.view (Rect.unit (s := S256x32x256) ![0, 0, 0] S256x32x256.size inb_S256x32x256_S256x32x256_0_0_0).toLoadRect (harg1.unread x0)) (View.readAt (Elt F) arg2.view (Rect.unit (s := S1x1x256) ![0, 0, 0] S1x1x256.size inb_S1x1x256_S1x1x256_0_0_0).toLoadRect (harg2.unread x1)) (runC.sl.r c arg5 harg5 x4) (View.readAt (Elt F) arg4.view (Rect.unit (s := S256x256) ![0, 0] S256x256.size inb_S256x256_S256x256_0_0).toLoadRect (harg4.unread x3))⟩]) = harg8.unread xs' :=
      harg8.eq_unread (by
        rw [read_writes_overlay, ← hx]
        simp only [slice, putSlice]
        refine congrArg₂ (Rect.overlay _) (harg8.read_unread _) ?_
        · congr 1
          · exact readAt_whole harg1 x0 (by funext a; fin_cases a <;> rfl) _
          · exact readAt_whole harg2 x1 (by funext a; fin_cases a <;> rfl) _
          · exact readAt_word harg5 x4 _ _
          · exact readAt_whole harg4 x3 (by funext a; fin_cases a <;> rfl) _)
    rw [e]
    icases HR with ⟨⟨%d6, %f6, -, H6⟩, ⟨%ds1, %fs1, -, HS1⟩⟩
    sl_exec (disch := first | sl_exact hc1')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg8.read_unread _
      iexact HS0
    isplitl [H6]; · iexists _; iexact H6
    iexists _; iexists _; isplitr; swap; · iexact HS1
    ipureintro; rfl

end Cert.BesideIdeal.Body
-- ==== Proof.Beside.History.lean ====
/-
  The recurrence that the last grid point runs over the pre-activations' buffer, in closed form: the state of all
  the chunks after each of the 128 steps, and what each stretch of the body leaves in terms of it.
-/
module

public import proofs.«01_k».proof.Proof.Beside.BodyLast
public import Idealize.ShloMosaic.Lib.Pipeline.Value

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

/-- The pre-activations that step `s` of the recurrence reads, one for each chunk: row `s % 32` of the buffer from column `125 + s / 32` on. -/
def rowAt (A : Vec F S32x1152 .f32) (s : ℕ) : Vec F S1x1024 .f32 := fun y =>
  A (ix2 ⟨s % 32, Nat.mod_lt _ (by omega)⟩ ⟨(125 + s / 32 + (y 1).val) % 1152, Nat.mod_lt _ (by omega)⟩)

/-- The chunks' states after `s` steps from zero, at the recurrent weight `w`. -/
def stateAt (w : F .f32) (A : Vec F S32x1152 .f32) : ℕ → FVec F S1x1024 .f32
  | 0 => broadcast S1x1024 (Scalar.ofBits .f32 0x00000000#32)
  | s + 1 => tanh (addf (rowAt A s) (mulf (broadcast S1x1024 w) (stateAt w A s)))

/-- The stretch of 1024 columns of a row that a load at row `o` and column `p` reads. -/
def rowAt' (A : Vec F S32x1152 .f32) (o p : ℕ) : Vec F S1x1024 .f32 := fun y =>
  A (ix2 ⟨o % 32, Nat.mod_lt _ (by omega)⟩ ⟨(p + (y 1).val) % 1152, Nat.mod_lt _ (by omega)⟩)

/-- A load of a row's stretch is the step's row of pre-activations. -/
theorem row_read {arg8 : Memref sig .tc .vmem S32x1152 .f32} (harg8 : arg8.IsWhole) (A : Vec F S32x1152 .f32) (o p : ℕ)
    (inb : ∀ a, (![o, p] : Fin 2 → ℕ) a + (![1, 1024] : Fin 2 → ℕ) a ≤ S32x1152.size a) :
    View.readAt (Elt F) arg8.view (Rect.unit (s := S32x1152) ![o, p] ![1, 1024] inb).toLoadRect (harg8.unread A) = rowAt' A o p := by
  funext y
  rw [harg8.readAt_unread]
  have h0 : o + 1 ≤ 32 := inb 0
  have h1 : p + 1024 ≤ 1152 := inb 1
  have hy0 : (y 0).val < 1 := (y 0).isLt
  have hy1 : (y 1).val < 1024 := (y 1).isLt
  refine congrArg A (funext fun a => ?_)
  match a with
  | ⟨0, _⟩ => exact Fin.ext (by show o + 1 * (y 0).val = o % 32; omega)
  | ⟨1, _⟩ => exact Fin.ext (by show p + 1 * (y 1).val = (p + (y 1).val) % 1152; omega)

/-- The recurrent weight, as the body reads it. -/
theorem word_eq (c : Dev nD) (arg6 : Memref sig .tc .smem S1x1 .f32) (harg6 : arg6.IsWhole) (x5 : Vec F S1x1 .f32) :
    runC.sl.r_15 c arg6 harg6 x5 = x5 (ix2 0 0) := readAt_word harg6 x5 _ _

theorem state_16 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_16 c arg6 harg6 arg8 harg8 x5 xs' = addf (rowAt xs' 7) (mulf (broadcast S1x1024 (x5 (ix2 0 0))) (stateAt (x5 (ix2 0 0)) xs' 7)) := by
  simp only [runC.sl.r_16, word_eq, row_read]
  rfl

theorem state_17 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_17 c arg6 harg6 arg8 harg8 x5 xs' = stateAt (x5 (ix2 0 0)) xs' 16 := by
  simp only [runC.sl.r_17, word_eq, state_16, row_read]
  rfl

theorem state_19 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_19 c arg6 harg6 arg8 harg8 x5 xs' = stateAt (x5 (ix2 0 0)) xs' 25 := by
  simp only [runC.sl.r_19, runC.sl.r_18, word_eq, state_17, row_read]
  rfl

theorem state_20 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_20 c arg6 harg6 arg8 harg8 x5 xs' = stateAt (x5 (ix2 0 0)) xs' 33 := by
  simp only [runC.sl.r_20, word_eq, state_19, row_read]
  rfl

theorem state_23 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_23 c arg6 harg6 arg8 harg8 x5 xs' = stateAt (x5 (ix2 0 0)) xs' 42 := by
  simp only [runC.sl.r_23, runC.sl.r_21, runC.sl.r_22, word_eq, state_20, row_read]
  rfl

theorem state_25 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_25 c arg6 harg6 arg8 harg8 x5 xs' = mulf (broadcast S1x1024 (x5 (ix2 0 0))) (stateAt (x5 (ix2 0 0)) xs' 50) := by
  simp only [runC.sl.r_25, word_eq, state_23, row_read]
  rfl

theorem state_26 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_26 c arg6 harg6 arg8 harg8 x5 xs' = stateAt (x5 (ix2 0 0)) xs' 59 := by
  simp only [runC.sl.r_26, runC.sl.r_24, word_eq, state_25, row_read]
  rfl

theorem state_27 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_27 c arg6 harg6 arg8 harg8 x5 xs' = addf (rowAt xs' 67) (mulf (broadcast S1x1024 (x5 (ix2 0 0))) (stateAt (x5 (ix2 0 0)) xs' 67)) := by
  simp only [runC.sl.r_27, word_eq, state_26, row_read]
  rfl

theorem state_28 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_28 c arg6 harg6 arg8 harg8 x5 xs' = stateAt (x5 (ix2 0 0)) xs' 76 := by
  simp only [runC.sl.r_28, word_eq, state_27, row_read]
  rfl

theorem state_30 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_30 c arg6 harg6 arg8 harg8 x5 xs' = stateAt (x5 (ix2 0 0)) xs' 85 := by
  simp only [runC.sl.r_30, runC.sl.r_29, word_eq, state_28, row_read]
  rfl

theorem state_31 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_31 c arg6 harg6 arg8 harg8 x5 xs' = stateAt (x5 (ix2 0 0)) xs' 93 := by
  simp only [runC.sl.r_31, word_eq, state_30, row_read]
  rfl

theorem state_34 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_34 c arg6 harg6 arg8 harg8 x5 xs' = stateAt (x5 (ix2 0 0)) xs' 99 := by
  simp only [runC.sl.r_34, runC.sl.r_32, runC.sl.r_33, word_eq, state_31, row_read]
  rfl

theorem state_37 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_37 c arg6 harg6 arg8 harg8 x5 xs' = stateAt (x5 (ix2 0 0)) xs' 104 := by
  simp only [runC.sl.r_37, runC.sl.r_35, runC.sl.r_36, word_eq, state_34, row_read]
  rfl

theorem state_39 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_39 c arg6 harg6 arg8 harg8 x5 xs' = stateAt (x5 (ix2 0 0)) xs' 109 := by
  simp only [runC.sl.r_39, word_eq, state_37, row_read]
  rfl

theorem state_40 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_40 c arg6 harg6 arg8 harg8 x5 xs' = stateAt (x5 (ix2 0 0)) xs' 113 := by
  simp only [runC.sl.r_40, word_eq, state_39, row_read]
  rfl

theorem state_41 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_41 c arg6 harg6 arg8 harg8 x5 xs' = stateAt (x5 (ix2 0 0)) xs' 118 := by
  simp only [runC.sl.r_41, word_eq, state_40, row_read]
  rfl

theorem state_43 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_43 c arg6 harg6 arg8 harg8 x5 xs' = mulf (broadcast S1x1024 (x5 (ix2 0 0))) (stateAt (x5 (ix2 0 0)) xs' 122) := by
  simp only [runC.sl.r_43, word_eq, state_41, row_read]
  rfl

theorem state_44 (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    runC.sl.r_44 c arg6 harg6 arg8 harg8 x5 xs' = stateAt (x5 (ix2 0 0)) xs' 127 := by
  simp only [runC.sl.r_44, runC.sl.r_42, word_eq, state_43, row_read]
  rfl

end Cert.BesideIdeal.Body
-- ==== Proof.Beside.Output.lean ====
/-
  What the body leaves in the output's block at the last grid point: the segments' means of the history of states.
-/
module

public import proofs.«01_k».proof.Proof.Beside.History
public import Idealize.ShloMosaic.Lib.Pipeline.Value
public import Idealize.ShloMosaic.Lib.Writes

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

/-- The states that are kept: row `r` is every chunk's state after `97 + r` steps, the one of the chunk's token `r`. -/
def history (w : F .f32) (A : Vec F S32x1152 .f32) : Vec F S32x1024 .f32 := fun y => stateAt w A (97 + (y 0).val) (ix2 0 (y 1))

/-- A stored state is its row of the history. -/
theorem history_piece (w : F .f32) (A : Vec F S32x1152 .f32) (r : ℕ) (inb : ∀ a, (![r, 0] : Fin 2 → ℕ) a + (S1x1024.size : Fin 2 → ℕ) a ≤ S32x1024.size a)
    (p : Vec F S1x1024 .f32) (hp : p = shapeCast S1x1024 (stateAt w A (97 + r)) shapeCasts_S1x1024_S1x1024) (x : S1x1024.Idx) :
    p x = history w A ((Rect.unit (s := S32x1024) ![r, 0] S1x1024.size inb).emb x) := by
  rw [hp, shapeCast_self]
  have hx0 : (x 0).val < 1 := (x 0).isLt
  have e0 : ((Rect.unit (s := S32x1024) ![r, 0] S1x1024.size inb).emb x 0).val = r := by
    show r + 1 * (x 0).val = r; omega
  have e1 : ((Rect.unit (s := S32x1024) ![r, 0] S1x1024.size inb).emb x 1) = x 1 := Fin.ext (by
    show 0 + 1 * (x 1).val = (x 1).val; omega)
  show _ = stateAt w A (97 + ((Rect.unit (s := S32x1024) ![r, 0] S1x1024.size inb).emb x 0).val) (ix2 0 ((Rect.unit (s := S32x1024) ![r, 0] S1x1024.size inb).emb x 1))
  rw [e0, e1]
  refine congrArg _ (funext fun a => ?_)
  match a with
  | ⟨0, _⟩ => exact Fin.ext (by show (x 0).val = 0; omega)
  | ⟨1, _⟩ => rfl

set_option maxHeartbeats 4000000 in
/-- Every piece of the history's buffer is the piece of `history` that its rectangle names. -/
theorem history_pieces (c : Dev nD) (arg6 : Memref sig .tc .smem S1x1 .f32) (harg6 : arg6.IsWhole) (arg8 : Memref sig .tc .vmem S32x1152 .f32) (harg8 : arg8.IsWhole) (x5 : Vec F S1x1 .f32) (xs' : Vec F S32x1152 .f32) :
    ∀ p ∈ runC.sl.HS1_32 c arg6 harg6 arg8 harg8 x5 xs', ∀ x : p.1.shape.Idx, p.2 x = history (x5 (ix2 0 0)) xs' (p.1.emb x) := by
  unfold runC.sl.HS1_32
  refine List.forall_mem_cons.2 ⟨history_piece _ _ 31 inb_S32x1024_S1x1024_31_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 30 inb_S32x1024_S1x1024_30_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 29 inb_S32x1024_S1x1024_29_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 28 inb_S32x1024_S1x1024_28_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 27 inb_S32x1024_S1x1024_27_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 26 inb_S32x1024_S1x1024_26_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 25 inb_S32x1024_S1x1024_25_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 24 inb_S32x1024_S1x1024_24_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 23 inb_S32x1024_S1x1024_23_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 22 inb_S32x1024_S1x1024_22_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 21 inb_S32x1024_S1x1024_21_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 20 inb_S32x1024_S1x1024_20_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 19 inb_S32x1024_S1x1024_19_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 18 inb_S32x1024_S1x1024_18_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 17 inb_S32x1024_S1x1024_17_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 16 inb_S32x1024_S1x1024_16_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 15 inb_S32x1024_S1x1024_15_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 14 inb_S32x1024_S1x1024_14_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 13 inb_S32x1024_S1x1024_13_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 12 inb_S32x1024_S1x1024_12_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 11 inb_S32x1024_S1x1024_11_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 10 inb_S32x1024_S1x1024_10_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 9 inb_S32x1024_S1x1024_9_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 8 inb_S32x1024_S1x1024_8_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 7 inb_S32x1024_S1x1024_7_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 6 inb_S32x1024_S1x1024_6_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 5 inb_S32x1024_S1x1024_5_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 4 inb_S32x1024_S1x1024_4_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 3 inb_S32x1024_S1x1024_3_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 2 inb_S32x1024_S1x1024_2_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 1 inb_S32x1024_S1x1024_1_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  refine List.forall_mem_cons.2 ⟨history_piece _ _ 0 inb_S32x1024_S1x1024_0_0 _ (by simp only [word_eq, state_31, runC.sl.r_32, runC.sl.r_33, state_34, runC.sl.r_35, runC.sl.r_36, state_37, runC.sl.r_38, state_39, state_40, state_41, runC.sl.r_42, state_43, state_44, row_read]; rfl), ?_⟩
  exact fun p hp => absurd hp List.not_mem_nil

/-- The history as the body reads it back. -/
theorem history_read (c : Dev nD) (arg6 : Memref sig .tc .smem S1x1 .f32) (harg6 : arg6.IsWhole) (arg8 : Memref sig .tc .vmem S32x1152 .f32) (harg8 : arg8.IsWhole) (arg9 : Memref sig .tc .vmem S32x1024 .f32) (x5 : Vec F S1x1 .f32) (xs' : Vec F S32x1152 .f32) :
    runC.sl.v763 c arg6 harg6 arg8 harg8 arg9 x5 xs' = history (x5 (ix2 0 0)) xs' := by
  have hcov : ∀ y : S32x1024.Idx, ∃ p ∈ runC.sl.HS1_32 c arg6 harg6 arg8 harg8 x5 xs', y ∈ p.1.set := by
    unfold runC.sl.HS1_32
    exact View.cover_of_tiledL _ ![1, 1024] (by sl_kernel_rfl)
  unfold runC.sl.v763
  have hz : (![0, 0] : Fin S32x1024.rank → ℕ) = fun _ => 0 := by funext a; fin_cases a <;> rfl
  rw [View.readCov_eq_canon_ld _ _ _ hcov, View.ld_unit_zero hz]
  exact funext fun y => View.canon_apply_of_pieces _ _ (history_pieces c arg6 harg6 arg8 harg8 x5 xs') y (hcov y)

/-- The sum of the entries of a block. -/
def blockSum (v : FVec F S32x1024 .f32) : F .f32 :=
  extractAt ![0, 0, 0] (shapeCast S1x1x1 (multiReduction .add [1, 2] S1 (shapeCast S1x32x1024 v shapeCasts_S32x1024_S1x32x1024) 0x00000000#32 reduces_S1x32x1024_S1 (.inl rfl) rfl) shapeCasts_S1_S1x1x1) inpos_S1x1x1_p0_0_0

/-- The mean of the entries of `O` at the places where `bt` is `n`. -/
def segMean (O : Vec F S32x1024 .f32) (bt : Vec F S32x1024 .i32) (n : BitVec 32) : F .f32 :=
  Scalar.divf (blockSum (select (cmpi .eq bt (broadcast S32x1024 n)) O (broadcast S32x1024 (Scalar.ofBits .f32 0x00000000#32))))
    (blockSum (sitofp .f32 (extui 32 (cmpi .eq bt (broadcast S32x1024 n)) natLt_1_32)))

/-- The output's block: row `n` is segment `n`'s mean, on every lane. -/
def outBlock (O : Vec F S32x1024 .f32) (bt : Vec F S32x1024 .i32) : Vec F S16x128 .f32 := fun y => segMean O bt (BitVec.ofNat 32 (y 0).val)

/-- A stored mean is its row of the output's block. -/
theorem out_piece (O : Vec F S32x1024 .f32) (bt : Vec F S32x1024 .i32) (r : ℕ) (inb : ∀ a, (![r, 0] : Fin 2 → ℕ) a + (S1x128.size : Fin 2 → ℕ) a ≤ S16x128.size a)
    (p : Vec F S1x128 .f32) (hp : p = shapeCast S1x128 (broadcast S128 (segMean O bt (BitVec.ofNat 32 r))) shapeCasts_S128_S1x128) (x : S1x128.Idx) :
    p x = outBlock O bt ((Rect.unit (s := S16x128) ![r, 0] S1x128.size inb).emb x) := by
  have hx0 : (x 0).val < 1 := (x 0).isLt
  have e0 : ((Rect.unit (s := S16x128) ![r, 0] S1x128.size inb).emb x 0).val = r := by
    show r + 1 * (x 0).val = r; omega
  rw [hp]
  show segMean O bt (BitVec.ofNat 32 r) = segMean O bt (BitVec.ofNat 32 ((Rect.unit (s := S16x128) ![r, 0] S1x128.size inb).emb x 0).val)
  rw [e0]

/-- The segment words, as the body reads them. -/
theorem words_eq (arg3 : Memref sig .tc .vmem S32x1024 .i32) (harg3 : arg3.IsWhole) (x2 : Vec F S32x1024 .i32) :
    View.readAt (Elt F) arg3.view (Rect.unit (s := S32x1024) ![0, 0] ![32, 1024] inb_S32x1024_S32x1024_0_0).toLoadRect (harg3.unread x2) = x2 :=
  readAt_whole harg3 x2 (by funext a; fin_cases a <;> rfl) _

theorem words_eq' (c : Dev nD) (arg3 : Memref sig .tc .vmem S32x1024 .i32) (harg3 : arg3.IsWhole) (x2 : Vec F S32x1024 .i32) :
    runC.sl.r_45 c arg3 harg3 x2 = x2 := by
  unfold runC.sl.r_45 k0_pay82
  exact (shapeCast_self _ _).trans (words_eq arg3 harg3 x2)

set_option maxHeartbeats 4000000 in
/-- Every piece of the output's block is the piece of `outBlock` that its rectangle names. -/
theorem out_pieces (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs') :
    ∀ p ∈ (runC c i arg1 harg1 arg2 harg2 arg3 harg3 arg4 harg4 arg5 harg5 arg6 harg6 arg7 harg7 arg8 harg8 arg9 harg9 hc0 hc1 x0 x1 x2 x3 x4 x5 xs xs' hx).1, ∀ x : p.1.shape.Idx, p.2 x = outBlock (history (x5 (ix2 0 0)) xs') x2 (p.1.emb x) := by
  unfold runC
  refine List.forall_mem_cons.2 ⟨out_piece _ _ 15 inb_S16x128_S1x128_15_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 14 inb_S16x128_S1x128_14_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 13 inb_S16x128_S1x128_13_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 12 inb_S16x128_S1x128_12_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 11 inb_S16x128_S1x128_11_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 10 inb_S16x128_S1x128_10_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 9 inb_S16x128_S1x128_9_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 8 inb_S16x128_S1x128_8_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 7 inb_S16x128_S1x128_7_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 6 inb_S16x128_S1x128_6_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 5 inb_S16x128_S1x128_5_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 4 inb_S16x128_S1x128_4_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 3 inb_S16x128_S1x128_3_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 2 inb_S16x128_S1x128_2_0 _ (by simp only [runC.sl.r_46, runC.sl.r_47, runC.sl.r_48, runC.sl.r_49, runC.sl.r_50, runC.sl.r_51, runC.sl.r_52, runC.sl.r_53, runC.sl.r_54, history_read, words_eq', words_eq]; rfl), ?_⟩
  refine List.forall_mem_cons.2 ⟨out_piece _ _ 1 inb_S16x128_S1x128_1_0 _ (by simp only [runC.sl.r_46, runC.sl.r_47, runC.sl.r_48, runC.sl.r_49, runC.sl.r_50, runC.sl.r_51, runC.sl.r_52, runC.sl.r_53, runC.sl.r_54, history_read, words_eq', words_eq]; simp only [k0_pay87, k0_pay83, k0_pay84, k0_pay85, k0_pay86, k0_pay82, shapeCast_self]; rfl), ?_⟩
  refine List.forall_mem_cons.2 ⟨out_piece _ _ 0 inb_S16x128_S1x128_0_0 _ (by simp only [runC.sl.r_46, runC.sl.r_47, runC.sl.r_48, runC.sl.r_49, runC.sl.r_50, runC.sl.r_51, runC.sl.r_52, runC.sl.r_53, runC.sl.r_54, history_read, words_eq', words_eq]; simp only [k0_pay87, k0_pay83, k0_pay84, k0_pay85, k0_pay86, k0_pay82, shapeCast_self]; rfl), ?_⟩
  exact fun p hp => absurd hp List.not_mem_nil

/-- The output's block after the last grid point, whatever it held before. -/
theorem out_read (c : Dev nD) (i : grid0.Coords) (arg1 : Memref sig .tc .vmem S256x32x256 .f32) (harg1 : arg1.IsWhole) (arg2 : Memref sig .tc .vmem S1x1x256 .f32) (harg2 : arg2.IsWhole) (arg3 : Memref sig .tc .vmem S32x1024 .i32) (harg3 : arg3.IsWhole) (arg4 : Memref sig .tc .vmem S256x256 .f32) (harg4 : arg4.IsWhole) (arg5 : Memref sig .tc .smem S1x1 .f32) (harg5 : arg5.IsWhole) (arg6 : Memref sig .tc .smem S1x1 .f32) (harg6 : arg6.IsWhole) (arg7 : Memref sig .tc .vmem S16x128 .f32) (harg7 : arg7.IsWhole) (arg8 : Memref sig .tc .vmem S32x1152 .f32) (harg8 : arg8.IsWhole) (arg9 : Memref sig .tc .vmem S32x1024 .f32) (harg9 : arg9.IsWhole) (hc0 : ¬cond0_0 i) (hc1 : True → cond0_1 i)
    (x0 : Vec F S256x32x256 .f32) (x1 : Vec F S1x1x256 .f32) (x2 : Vec F S32x1024 .i32) (x3 : Vec F S256x256 .f32) (x4 : Vec F S1x1 .f32) (x5 : Vec F S1x1 .f32) (xs xs' : Vec F S32x1152 .f32) (hx : putSlice i xs (slice x0 x1 x3 x4) = xs')
    (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 hc0 hc1 x0 x1 x2 x3 x4 x5 xs xs' hx).1) = outBlock (history (x5 (ix2 0 0)) xs') x2 := by
  refine funext fun y => View.read_writes_apply_of_pieces _ _ _ _ (out_pieces c i arg1 harg1 arg2 harg2 arg3 harg3 arg4 harg4 arg5 harg5 arg6 harg6 arg7 harg7 arg8 harg8 arg9 harg9 hc0 hc1 x0 x1 x2 x3 x4 x5 xs xs' hx) y ?_
  revert y
  unfold runC
  exact View.cover_of_tiledL _ ![1, 128] (by sl_kernel_rfl)

end Cert.BesideIdeal.Body
-- ==== Proof.Beside.Blocks.lean ====
/-
  The blocks the body finds at a grid point, element by element, in terms of the arguments.
-/
module

public import proofs.«01_k».proof.Proof.Gen.BesideIdeal.Frame
public import Idealize.ShloMosaic.Lib.Pipeline.ValueKit

@[expose] public section

set_option maxRecDepth 16384

noncomputable section

namespace Cert.BesideIdeal.Blocks

open Idealize.ShloMosaic Idealize.ShloMosaic.TcCoe Idealize.ShloMosaic.Tactic
open Idealize.SL Idealize.SL.Sem
open Cert.BesideIdeal.Gen
variable (m : (ℓ : Loc nD τ sig) → Buf (Elt Ideal) ℓ) (c : Dev nD)

/-- Where each window's block lies. -/
theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![0, 0] ∧ t.val < 4 :=
  (by decide +kernel : ∀ t : Fin grid0.N, _)

/-- The features as the region finds them, reshaped to chunks. -/
theorem V_v12 : V m c main_v12 = shapeCast S1024x32x256 (m ((c : Thread nD τ).loc main_arg0)) shapeCasts_S32768x256_S1024x32x256 := by
  unfold V V0
  simp only [hostOps0, List.flatten_cons, List.flatten_nil, List.append_nil]
  after_results
  rfl

/-- The input weights, reshaped. -/
theorem V_v13 : V m c main_v13 = shapeCast S1x1x256 (m ((c : Thread nD τ).loc main_arg2)) shapeCasts_S1x256_S1x1x256 := by
  unfold V V0
  simp only [hostOps0, List.flatten_cons, List.flatten_nil, List.append_nil]
  after_results
  rfl

/-- The segments, reshaped to chunks and transposed. -/
theorem V_v5 : V m c main_v5 = transpose S32x1024 [1, 0] (shapeCast S1024x32 (m ((c : Thread nD τ).loc main_arg1)) shapeCasts_S32768_S1024x32) transposes_S1024x32_S32x1024_1_0 := by
  unfold V V0
  simp only [hostOps0, List.flatten_cons, List.flatten_nil, List.append_nil]
  after_results
  rfl

/-- The biases' sum. -/
theorem V_v3 : V m c main_v3 = shapeCast S1x1 (addf (F := Ideal) (φ := .f32) (shapeCast S_ (m ((c : Thread nD τ).loc main_arg4)) shapeCasts_S1_S_) (shapeCast S_ (m ((c : Thread nD τ).loc main_arg5)) shapeCasts_S1_S_)) shapeCasts_S_S1x1 := by
  unfold V V0
  simp only [hostOps0, List.flatten_cons, List.flatten_nil, List.append_nil]
  after_results
  rfl

/-- The identity matrix. -/
theorem V_v11 : V m c main_v11 = uitofp (F := Ideal) .f32 (cmpi .eq (addi (iotaInDim S256x256 32 0) (broadcastInDim S256x256 ![] bcast_S_S256x256 (constantI S_ 32 0#32))) (iotaInDim S256x256 32 1)) := by
  unfold V V0
  simp only [hostOps0, List.flatten_cons, List.flatten_nil, List.append_nil]
  after_results

/-- The features' block: chunk `256t + j`, token `i` of the chunk. -/
theorem x_block (t : Fin cfg0.N) (j : Fin 256) (i : Fin 32) (d : Fin 256) (u : Fin 32768) (hu : u.val = (256 * t.val + j.val) * 32 + i.val) :
    iblk m c 0 t (ix3 j i d) = m ((c : Thread nD τ).loc main_arg0) (ix2 u d) := by
  show V m c main_v12 (((cfg0.win 0).blk t).view.emb (ix3 j i d)) = _
  rw [V_v12]
  refine shapeCast_apply _ _ _ (ix2 u d) ?_
  rw [Shape.rowMajor_val_two, Shape.rowMajor_val_three]
  blk_simp [idx t]
  omega

/-- The input weights' block. -/
theorem w_block (t : Fin cfg0.N) (d : Fin 256) :
    iblk m c 1 t (ix3 0 0 d) = m ((c : Thread nD τ).loc main_arg2) (ix2 0 d) := by
  show V m c main_v13 (((cfg0.win 1).blk t).view.emb (ix3 0 0 d)) = _
  rw [V_v13]
  pointwise
  blk_ext [idx t]

/-- The segments' block: token `i` of chunk `k`. -/
theorem bt_block (t : Fin cfg0.N) (i : Fin 32) (k : Fin 1024) (u : Fin 32768) (hu : u.val = k.val * 32 + i.val) :
    iblk m c 2 t (ix2 i k) = m ((c : Thread nD τ).loc main_arg1) (ix1 u) := by
  show V m c main_v5 (((cfg0.win 2).blk t).view.emb (ix2 i k)) = _
  rw [V_v5]
  pointwise
  blk_ext [idx t]

/-- The recurrent weight's block. -/
theorem whh_block (t : Fin cfg0.N) :
    iblk m c 5 t (ix2 0 0) = m ((c : Thread nD τ).loc main_arg3) (ix2 0 0) := by
  blk_simp [iblk, idx t]
  entry_read
  blk_ext [idx t]

/-- The bias's block: the two biases' sum. -/
theorem bias_block (t : Fin cfg0.N) :
    iblk m c 4 t (ix2 0 0) = (show EReal from m ((c : Thread nD τ).loc main_arg4) (ix1 0)) + (show EReal from m ((c : Thread nD τ).loc main_arg5) (ix1 0)) := by
  show V m c main_v3 (((cfg0.win 4).blk t).view.emb (ix2 0 0)) = _
  rw [V_v3]
  pointwise

/-- The identity matrix's block. -/
theorem eye_block (t : Fin cfg0.N) (j k : Fin 256) :
    iblk m c 3 t (ix2 j k) = (if j = k then 1 else 0 : EReal) := by
  show V m c main_v11 (((cfg0.win 3).blk t).view.emb (ix2 j k)) = _
  rw [V_v11]
  pointwise
  blk_simp [idx t]
  show (((IntOp.cmpi CmpIPredicate.eq (IntOp.addi (BitVec.ofNat 32 ↑j) 0#32) (BitVec.ofNat 32 ↑k)).toNat : ℝ) : EReal) = _
  by_cases h : j = k
  · subst h
    simp [IntOp.cmpi, IntOp.addi]
  · have hne : BitVec.ofNat 32 j.val ≠ BitVec.ofNat 32 k.val := fun e => h (Fin.ext (by
      have e' := congrArg BitVec.toNat e
      simp only [BitVec.toNat_ofNat] at e'
      have := j.isLt; have := k.isLt
      omega))
    simp [IntOp.cmpi, IntOp.addi, h, hne]

end Cert.BesideIdeal.Blocks

end
-- ==== Proof.Beside.KernelValue.lean ====
/-
  The kernel's buffers over the extended reals: the pre-activations, the states, and the segments' means.
-/
module

public import proofs.«01_k».proof.Proof.Beside.Filled
public import proofs.«01_k».proof.Proof.Beside.Output
public import proofs.«01_k».proof.Proof.Beside.Blocks
public import proofs.«01_k».proof.Proof.KernelValue

@[expose] public section

set_option maxRecDepth 16384

noncomputable section

namespace Cert.BesideIdeal.Body

open Idealize.ShloMosaic Idealize.ShloMosaic.TcCoe Idealize.ShloMosaic.Tactic
open Idealize.SL Idealize.SL.Sem
open Cert.BesideIdeal.Gen
open Cert.BesideIdeal.Blocks

variable (m : (ℓ : Loc nD τ sig) → Buf (Elt Ideal) ℓ) (c : Dev nD)

/-- The arguments' pre-activations. -/
def preOf : ℕ → EReal := Spec.pre (fun t d => m ((c : Thread nD τ).loc main_arg0) (ix2 t d)) (fun d => m ((c : Thread nD τ).loc main_arg2) (ix2 0 d))
  (m ((c : Thread nD τ).loc main_arg4) (ix1 0)) (m ((c : Thread nD τ).loc main_arg5) (ix1 0))

/-- A point's slice: the pre-activation of token `i` of chunk `256t + j`. -/
theorem sliceAt_at (t : Fin cfg0.N) (i : Fin 32) (j : Fin 256) :
    sliceAt m c t (ix2 i j) = preOf m c ((256 * t.val + j.val) * 32 + i.val) := by
  have h4 := (idx t).2.2.2.2.2.2
  have hu : (256 * t.val + j.val) * 32 + i.val < 32768 := by omega
  unfold preOf Spec.pre
  rw [dif_pos hu]
  unfold sliceAt slice
  pointwise [k0_pay2]
  have hb : iblk m c 4 t (ValueIdx.ix2 0 0) = _ := bias_block m c t
  rw [hb]
  have he : ∀ q : Fin 256, iblk m c 3 t (ix2 q j) = (if q = j then 1 else 0 : EReal) := fun q => eye_block m c t q j
  have hx : ∀ d : Fin 256, iblk m c 0 t (ix3 j i d) = m ((c : Thread nD τ).loc main_arg0) (ix2 ⟨(256 * t.val + j.val) * 32 + i.val, hu⟩ d) :=
    fun d => x_block m c t j i d _ rfl
  have hw : ∀ d : Fin 256, iblk m c 1 t (ix3 0 0 d) = m ((c : Thread nD τ).loc main_arg2) (ix2 0 d) := fun d => w_block m c t d
  refine (Finset.sum_eq_single j (fun q _ hq => ?_) (fun h => absurd (Finset.mem_univ _) h)).trans ?_
  · rw [he, if_neg hq]; exact mul_zero _
  · rw [he, if_pos rfl]
    refine (mul_one _).trans ?_
    refine congrArg (· + _) (Finset.sum_congr rfl fun d _ => ?_)
    rw [hx, hw]

/-- The buffer where step `s` of chunk `k` reads it: the padded pre-activation `s` places past the chunk's window's start. -/
theorem rowAt_filled (s : ℕ) (hs : s < 128) (k : Fin 1024) :
    rowAt (filled m c) s (ix2 0 k) = Spec.padded (preOf m c) (32 * k.val + s) := by
  have hk := k.isLt
  have h1 : (125 + s / 32 + k.val) % 1152 = 125 + s / 32 + k.val := Nat.mod_eq_of_lt (by omega)
  show filled m c (ValueIdx.ix2 ⟨s % 32, _⟩ ⟨(125 + s / 32 + k.val) % 1152, _⟩) = _
  unfold filled Spec.padded
  by_cases h : 32 * k.val + s < 96
  · rw [dif_pos (show (125 + s / 32 + k.val) % 1152 < 128 by omega), if_pos h]
    exact Ideal.ofBits_zero_f32
  · rw [dif_neg (show ¬(125 + s / 32 + k.val) % 1152 < 128 by omega), if_neg h]
    refine (sliceAt_at m c _ _ _).trans (congrArg (preOf m c) ?_)
    show (256 * (((125 + s / 32 + k.val) % 1152 - 128) / 256) + ((125 + s / 32 + k.val) % 1152 - 128) % 256) * 32 + s % 32 = _
    rw [h1]
    omega

/-- The chunks' states are the recurrence's. -/
theorem stateAt_eq (w : EReal) (k : Fin 1024) : ∀ s : ℕ, s ≤ 128 →
    stateAt (F := Ideal) w (filled m c) s (ix2 0 k) = Spec.run w (preOf m c) k.val s
  | 0, _ => Ideal.ofBits_zero_f32
  | s + 1, hs => by
    have ih := stateAt_eq w k s (by omega)
    have hr := rowAt_filled m c s (by omega) k
    show Ideal.tanh (rowAt (filled m c) s (ix2 0 k) + w * stateAt (F := Ideal) w (filled m c) s (ix2 0 k)) = _
    rw [ih, hr]
    rfl

/-- The history at token `i` of chunk `k`. -/
theorem history_eq (w : EReal) (i : Fin 32) (k : Fin 1024) :
    history (F := Ideal) w (filled m c) (ix2 i k) = Spec.tok w (preOf m c) (32 * k.val + i.val) := by
  refine (stateAt_eq m c w k (97 + i.val) (by omega)).trans ?_
  unfold Spec.tok
  rw [show (32 * k.val + i.val) / 32 = k.val by omega, show (32 * k.val + i.val) % 32 = i.val by omega]

/-- Segment `n`'s mean in the kernel is the mean of the segment's entries. -/
theorem segMean_eq (w : EReal) (t : Fin cfg0.N) (n : ℕ) :
    segMean (F := Ideal) (history (F := Ideal) w (filled m c)) (iblk m c 2 t) (BitVec.ofNat 32 n)
      = Spec.mean (fun u => m ((c : Thread nD τ).loc main_arg1) (ix1 u)) (Spec.tok w (preOf m c)) n := by
  unfold segMean
  refine (Ideal.scalar_divf_def _ _).trans ?_
  show Ideal.div (Cert.KernelIdeal.Body.blockSum (F := Ideal) _) (Cert.KernelIdeal.Body.blockSum (F := Ideal) _) = _
  rw [Cert.KernelIdeal.Body.blockSum_eq, Cert.KernelIdeal.Body.blockSum_eq]
  unfold Spec.mean Spec.total
  refine congrArg₂ Ideal.div ?_ ?_
  · refine Cert.KernelIdeal.Body.sum_tokens _ _ fun i k u hu => ?_
    have hb := bt_block m c t i k u hu
    have hh := history_eq m c w i k
    rw [show 32 * k.val + i.val = u.val by omega] at hh
    show (if (IntOp.cmpi .eq (iblk m c 2 t (ix2 i k)) (BitVec.ofNat 32 n)) = 1#1 then history (F := Ideal) w (filled m c) (ix2 i k) else Ideal.ofBits .f32 0x00000000#32) = _
    rw [hb, hh, Ideal.ofBits_zero_f32]
    rw [Cert.KernelIdeal.Body.cmpi_eq_ite]
    by_cases hs : m ((c : Thread nD τ).loc main_arg1) (ix1 u) = BitVec.ofNat 32 n
    · rw [if_pos hs, if_pos hs]; simp
    · rw [if_neg hs, if_neg hs]; simp
  · refine Cert.KernelIdeal.Body.sum_tokens _ _ fun i k u hu => ?_
    have hb := bt_block m c t i k u hu
    show ((((IntOp.cmpi .eq (iblk m c 2 t (ix2 i k)) (BitVec.ofNat 32 n)).setWidth 32).toInt : ℝ) : EReal) = _
    rw [hb]
    rw [Cert.KernelIdeal.Body.cmpi_eq_ite]
    by_cases hs : m ((c : Thread nD τ).loc main_arg1) (ix1 u) = BitVec.ofNat 32 n
    · rw [if_pos hs, if_pos hs]; simp
    · rw [if_neg hs, if_neg hs]; simp

/-- THE KERNEL'S RESULT: at segment `n` the mean, over the segment's tokens, of their windowed states. -/
theorem result_at (t : Fin cfg0.N) (i : S16x1.Idx) :
    extractStridedSlice S16x1 ![0, 0] (outBlock (history (iblk m c 5 t (ValueIdx.ix2 0 0)) (filled m c)) (iblk m c 2 t)) slices_S16x128_S16x1_0_0 i
      = Spec.mean (fun u => m ((c : Thread nD τ).loc main_arg1) (ix1 u)) (Spec.tok (m ((c : Thread nD τ).loc main_arg3) (ix2 0 0)) (preOf m c)) (i 0).val := by
  have h5 : iblk m c 5 t (ValueIdx.ix2 0 0) = m ((c : Thread nD τ).loc main_arg3) (ix2 0 0) := whh_block m c t
  rw [h5]
  refine (extractStridedSlice_apply _ _ _ _ (ix2 (i 0) 0) fun a => ?_).trans (segMean_eq m c _ t (i 0).val)
  have h1 : (i 1).val < 1 := (i 1).isLt
  match a with
  | ⟨0, _⟩ => show (i 0).val = 0 + (i 0).val; omega
  | ⟨1, _⟩ => show 0 = 0 + (i 1).val; omega

end Cert.BesideIdeal.Body

end
-- ==== Proof.Beside.Region.lean ====
/-
  The run of the pipeline: the proof data, the body at every point, and the frame.
-/
module

public import proofs.«01_k».proof.Proof.Beside.BodyFirst
public import proofs.«01_k».proof.Proof.Beside.BodyMiddle
public import proofs.«01_k».proof.Proof.Beside.Output
public import proofs.«01_k».proof.Proof.Beside.Filled
public import Idealize.ShloMosaic.Lib.Claim

@[expose] public section

set_option maxRecDepth 16384

noncomputable section

namespace Cert.BesideIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BesideIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's block holds after the last point. -/
def outAt (c : Dev nD) (t : Fin cfg0.N) : Vec F S16x128 .f32 := outBlock (history (iblk m c 5 t (ix2 0 0)) (filled m c)) (iblk m c 2 t)

/-- The invariant before point `n`: the pre-activations' buffer filled as far as the points before have come, the history's buffer at anything and the
    generator's register at some state. -/
def Inv (c : Dev nD) (n : ℕ) : sProp 𝕄 :=
  iprop(iprop((∃ X, iprop(⌜FilledTo m c n X⌝ ∗ owns (c : Thread nD τ) scM0_0 fullShare X)) ∗ (∃ d, owns (c : Thread nD τ) scM0_1 fullShare d)) ∗ (∃ r, prngReg c r))

/-- The proof data: the arrays as the region finds them; after the body each input's buffer at its block and the output's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  have hN : t.val < 4 := point_lt t
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  by_cases h1 : t.val % 4 = 3
  · have h0 : ¬t.val % 4 = 0 := by omega
    have hc0 : ¬cond0_0 (grid0.coords t) := fun h => h0 ((hcond0_0 t).mp h)
    have hc1 : cond0_1 (grid0.coords t) := (hcond0_1 t).mpr h1
    rw [show (dats m 0 c).leavesExact 6 t = owns (c : Thread nD τ) (ms0_6 t) fullShare ((dats m 0 c).after 6 t) from by
      unfold Dat.leavesExact; rw [liveAt0_6_C t hc0 hc1], after0_6]
    iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    have hx := filledTo_last m c t (by omega) X hX
    iapply ((runC c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 (fun _ => hc1) (iblk m c 0 t) (iblk m c 1 t) (iblk m c 2 t) (iblk m c 3 t) (iblk m c 4 t) (iblk m c 5 t) X (filled m c) hx).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [H6 HS1]
    · isplitl [H6]
      · iexists _; iexact H6
      iexact HS1
    iintro ⟨H0, H1, H2, H3, H4, H5, HS0, ⟨%f, H6⟩, HS1⟩
    isplitl [HS0 HS1 Hg]
    · isplitl [HS0 HS1]
      · isplitl [HS0]
        · iexists (filled m c)
          isplitr
          · ipureintro; exact fun _ _ _ => rfl
          iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact out_read c _ _ _ _ _ _ _ _ _ _ _ _ _ _ _ _ _ _ _ _ _ _ _ _ _ _ _ _ _ _ _
  · by_cases h0 : t.val % 4 = 0
    · have hc0 : cond0_0 (grid0.coords t) := ((hcond0_0 t).mpr h0)
      have hc1 : ¬cond0_1 (grid0.coords t) := fun h => h1 ((hcond0_1 t).mp h)
      rw [Dat.leavesExact_idle (dats m 0 c) 6 t (idleAt0_6_A t hc0 hc1) (noFlush0_6_A t hc0 hc1)]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 hc1 (iblk m c 0 t) (iblk m c 1 t) (iblk m c 2 t) (iblk m c 3 t) (iblk m c 4 t) (iblk m c 5 t) X Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HS1 Hg]
      · isplitl [HS0 HS1]
        · isplitl [HS0]
          · iexists _
            isplitr
            · ipureintro; exact filledTo_first m c t (by omega) X
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := (fun h => h0 ((hcond0_0 t).mp h))
      have hc1 : ¬cond0_1 (grid0.coords t) := fun h => h1 ((hcond0_1 t).mp h)
      rw [Dat.leavesExact_idle (dats m 0 c) 6 t (idleAt0_6_B t hc0 hc1) (noFlush0_6_B t hc0 hc1)]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) hc0 hc1 (iblk m c 0 t) (iblk m c 1 t) (iblk m c 2 t) (iblk m c 3 t) (iblk m c 4 t) (iblk m c 5 t) X Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HS1 Hg]
      · isplitl [HS0 HS1]
        · isplitl [HS0]
          · iexists _
            isplitr
            · ipureintro; exact filledTo_next m c t (by omega) X hX
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Inv m c 0 from rfl, PhiA0_eq]
  unfold Inv
  iintro ⟨⟨⟨%X, HS0⟩, HS1⟩, Hg⟩
  isplitl [HS0 HS1]
  · isplitl [HS0]
    · iexists X
      isplitr
      · ipureintro; exact fun h => absurd rfl h
      iexact HS0
    iexact HS1
  iexact Hg

/-- After the last point the invariant gives the buffers back. -/
theorem hout (c : Dev nD) : (dats m 0 c).Φ (Fin.last cfg0.N) ⊢ Pipeline.ΦA spec0 c := by
  rw [show (dats m 0 c).Φ (Fin.last cfg0.N) = Inv m c cfg0.N from rfl, PhiA0_eq]
  unfold Inv
  iintro ⟨⟨⟨%X, -, HS0⟩, HS1⟩, Hg⟩
  isplitl [HS0 HS1]
  · isplitl [HS0]
    · iexists X; iexact HS0
    iexact HS1
  iexact Hg

-- `θ_run_frame_around_track`'s implicit arguments are found by unifying its conclusion with this one, which takes unfolding plain
-- definitions in a metavariable's type
set_option backward.isDefEq.respectTransparency.types false in
set_option maxHeartbeats 800000 in
/-- The launch runs to the arrays' final contents, every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arrays' final contents, from any memory with zero counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.BesideIdeal.Body
-- ==== Proof.Beside.Result.lean ====
/-
  The kernel's result array after the run: the first column of the block the last grid point leaves, and the arguments unchanged.
-/
module

public import proofs.«01_k».proof.Proof.Beside.Region
public import Idealize.ShloMosaic.Lib.Pipeline.ValueKit

@[expose] public section

set_option maxRecDepth 16384

noncomputable section

namespace Cert.BesideIdeal.Body

open Idealize.ShloMosaic Idealize.ShloMosaic.TcCoe Idealize.ShloMosaic.Tactic
open Idealize.SL Idealize.SL.Sem
open Cert.BesideIdeal.Gen
open Idealize.ShloMosaic.ValueIdx

variable {F : FTy → Type} [FloatOps F]

variable (m : (ℓ : Loc nD τ sig) → Buf (Elt F) ℓ) (ρ : Dev nD → PrngReg)

/-- After the grid the output's array is the block of the last point. -/
theorem final_6 (c : Dev nD) : (dats m 0 c).arrAt 6 (cfgs 0).N = outAt m c t0_3 := by
  refine (dats m 0 c).arrAt_eq_of_after_last 6 t0_3 (by decide +kernel) _ fun j => ?_
  blk_simp
  rw [after0_6]

/-- The result: the first column of that block. -/
theorem result_main_v15 (c : Dev nD) : Pipeline.afterTail₀ cfgs (dats m) 0 (V0 m) [hostOps1] c main_v15
    = extractStridedSlice S16x1 ![0, 0] (outAt m c t0_3) slices_S16x128_S16x1_0_0 := by
  rw [← final_6 m c]
  unfold Pipeline.afterTail₀
  simp only [hostOps1, List.flatten_cons, List.flatten_nil, List.append_nil, StableHlo.after_cons, StableHlo.after_nil]
  rw [StableHlo.unary_result]
  refine congrArg (fun v : Vec F S16x128 .f32 => extractStridedSlice S16x1 ![0, 0] v slices_S16x128_S16x1_0_0) ?_
  exact Pipeline.withArrays_arr spec0 (by decide) c (V0 m c) (fun w => (dats m 0 c).arrAt w (cfgs 0).N) 6

/-- THE RESULT after every run, and the arguments unchanged. -/
theorem result : θ_run defs (onTc (τ := τ) (main (F := F))) ⟨m, fun _ => 0, ρ⟩ (fun r => ∀ c : Dev nD,
      r.2.mem ((c.tc : Thread nD τ).loc main_v15) = extractStridedSlice S16x1 ![0, 0] (outAt m c t0_3) slices_S16x128_S16x1_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v15 (Pipeline.mem_restRefs_of main_v15 (by decide) (by decide))).trans (result_main_v15 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.BesideIdeal.Body

end
-- ==== Proof.Forget.lean ====
/-
  The recurrence begun at token 0, and how fast the recurrence forgets where it was begun.
-/
module

public import proofs.«01_k».proof.Proof.Spec
public import Mathlib.Analysis.SpecialFunctions.Artanh
public import Mathlib.Analysis.Calculus.MeanValue

@[expose] public section

noncomputable section

namespace Cert.Spec

open Idealize.ShloMosaic

/-- The state after `u` tokens of the recurrence begun at zero at token 0: token `t`'s state is that after `t + 1`. -/
def exact (w : EReal) (a : ℕ → EReal) : ℕ → EReal
  | 0 => 0
  | u + 1 => Ideal.tanh (a u + w * exact w a u)

/-- The hyperbolic tangent's derivative lies between 0 and 1. -/
theorem tanh_deriv (x : ℝ) : ∃ d : ℝ, HasDerivAt Real.tanh d x ∧ ‖d‖ ≤ 1 := by
  have hc : Real.cosh x ≠ 0 := (Real.cosh_pos x).ne'
  refine ⟨(Real.cosh x * Real.cosh x - Real.sinh x * Real.sinh x) / Real.cosh x ^ 2, ?_, ?_⟩
  · have h := (Real.hasDerivAt_sinh x).div (Real.hasDerivAt_cosh x) hc
    have e : Real.tanh = Real.sinh / Real.cosh := by
      funext y
      exact Real.tanh_eq_sinh_div_cosh y
    rw [e]
    exact h
  · have h1 : Real.cosh x * Real.cosh x - Real.sinh x * Real.sinh x = 1 := by
      have := Real.cosh_sq x
      nlinarith
    rw [h1, Real.norm_eq_abs, abs_of_nonneg (by positivity), div_le_one (by positivity)]
    have := Real.one_le_cosh x
    nlinarith

/-- It moves no two numbers apart. -/
theorem tanh_sub_le (x y : ℝ) : |Real.tanh x - Real.tanh y| ≤ |x - y| := by
  choose d hd hb using tanh_deriv
  have h := Convex.norm_image_sub_le_of_norm_hasDerivWithin_le (f := Real.tanh) (f' := d) (s := Set.univ) (C := 1) (x := y) (y := x)
    (fun z _ => (hd z).hasDerivWithinAt) (fun z _ => hb z) convex_univ (Set.mem_univ _) (Set.mem_univ _)
  rw [one_mul] at h
  exact h

/-- Its values are numbers between -1 and 1. -/
theorem tanh_real (x : EReal) : ∃ r : ℝ, Ideal.tanh x = r ∧ |r| ≤ 1 := by
  induction x with
  | bot => exact ⟨-1, by simp, by simp⟩
  | top => exact ⟨1, by simp, by simp⟩
  | coe r => exact ⟨Real.tanh r, rfl, abs_le.2 ⟨(Real.neg_one_lt_tanh r).le, (Real.tanh_lt_one r).le⟩⟩

/-- The states from token 0 are such numbers. -/
theorem exact_real (w : EReal) (a : ℕ → EReal) : ∀ u, ∃ r : ℝ, exact w a u = r ∧ |r| ≤ 1
  | 0 => ⟨0, rfl, by simp⟩
  | u + 1 => tanh_real _

/-- So are the windows' states. -/
theorem run_real (w : EReal) (a : ℕ → EReal) (k : ℕ) : ∀ s, ∃ r : ℝ, run w a k s = r ∧ |r| ≤ 1
  | 0 => ⟨0, rfl, by simp⟩
  | s + 1 => tanh_real _

/-- One step over the same pre-activation brings two states within `|w|` times their distance. -/
theorem step_near (w : ℝ) (a : EReal) (p q p' q' : ℝ) (hp : Ideal.tanh (a + (w : EReal) * (p : EReal)) = p') (hq : Ideal.tanh (a + (w : EReal) * (q : EReal)) = q') :
    |p' - q'| ≤ |w| * |p - q| := by
  rw [← EReal.coe_mul] at hp hq
  induction a with
  | bot =>
    rw [EReal.bot_add, Ideal.tanh_bot] at hp hq
    have : p' = q' := EReal.coe_injective (hp.symm.trans hq)
    rw [this, sub_self, abs_zero]
    positivity
  | top =>
    rw [EReal.top_add_coe, Ideal.tanh_top] at hp hq
    have : p' = q' := EReal.coe_injective (hp.symm.trans hq)
    rw [this, sub_self, abs_zero]
    positivity
  | coe r =>
    rw [← EReal.coe_add, Ideal.tanh_coe] at hp hq
    rw [← EReal.coe_injective hp, ← EReal.coe_injective hq, ← abs_mul]
    refine (tanh_sub_le _ _).trans (le_of_eq (congrArg _ ?_))
    ring

/-- The recurrence from token 0, 96 places late, goes over the padded pre-activations. -/
theorem exact_late (w : EReal) (a : ℕ → EReal) (u : ℕ) : exact w a (u + 1 - 96) = Ideal.tanh (padded a u + w * exact w a (u - 96)) := by
  unfold padded
  by_cases h : u < 96
  · rw [if_pos h, show u + 1 - 96 = 0 by omega, show u - 96 = 0 by omega]
    show (0 : EReal) = Ideal.tanh (0 + w * 0)
    rw [mul_zero, zero_add, ← EReal.coe_zero, Ideal.tanh_coe, Real.tanh_zero]
  · rw [if_neg h, show u + 1 - 96 = (u - 96) + 1 by omega]
    rfl

/-- After `s` steps the window's state is within `|w| ^ s` of the recurrence from token 0. -/
theorem run_near (w : ℝ) (a : ℕ → EReal) (k : ℕ) : ∀ (s : ℕ) (p q : ℝ), run w a k s = p → exact w a (32 * k + s - 96) = q → |p - q| ≤ |w| ^ s
  | 0, p, q, hp, hq => by
    have h0 : p = 0 := EReal.coe_injective hp.symm
    obtain ⟨r, hr, hb⟩ := exact_real w a (32 * k + 0 - 96)
    have h1 : q = r := EReal.coe_injective (hq.symm.trans hr)
    rw [h0, h1, zero_sub, abs_neg, pow_zero]
    exact hb
  | s + 1, p', q', hp, hq => by
    obtain ⟨p, hp1, -⟩ := run_real w a k s
    obtain ⟨q, hq1, -⟩ := exact_real w a (32 * k + s - 96)
    have ih := run_near w a k s p q hp1 hq1
    have e : exact w a (32 * k + (s + 1) - 96) = Ideal.tanh (padded a (32 * k + s) + w * exact w a (32 * k + s - 96)) := exact_late w a (32 * k + s)
    rw [e, hq1] at hq
    have hp2 : Ideal.tanh (padded a (32 * k + s) + w * run w a k s) = p' := hp
    rw [hp1] at hp2
    refine (step_near w _ p q p' q' hp2 hq).trans ?_
    rw [pow_succ, mul_comm]
    exact mul_le_mul_of_nonneg_right ih (abs_nonneg w)

/-- A token's windowed state is within `2|w| ^ 97` of the recurrence from token 0. -/
theorem tok_near (w : ℝ) (a : ℕ → EReal) (t : ℕ) (p q : ℝ) (hp : tok w a t = p) (hq : exact w a (t + 1) = q) : |p - q| ≤ 2 * |w| ^ 97 := by
  have hq' := hq
  rw [show t + 1 = 32 * (t / 32) + (97 + t % 32) - 96 by omega] at hq'
  have h := run_near w a (t / 32) (97 + t % 32) p q hp hq'
  by_cases hw : |w| ≤ 1
  · have h1 : |w| ^ (97 + t % 32) ≤ |w| ^ 97 := pow_le_pow_of_le_one (abs_nonneg w) hw (by omega)
    have h2 : 0 ≤ |w| ^ 97 := by positivity
    linarith
  · obtain ⟨p1, hp1, hpb⟩ := run_real w a (t / 32) (97 + t % 32)
    obtain ⟨q1, hq1, hqb⟩ := exact_real w a (t + 1)
    have e1 : p = p1 := EReal.coe_injective (hp.symm.trans hp1)
    have e2 : q = q1 := EReal.coe_injective (hq.symm.trans hq1)
    have h1 : 1 ≤ |w| ^ 97 := one_le_pow₀ (by linarith)
    have h2 : |p - q| ≤ |p| + |q| := abs_sub p q
    rw [e1, e2] at h2 ⊢
    linarith

end Cert.Spec

end
-- ==== Proof.ExactStates.lean ====
/-
  What the precondition says of the states beside the arguments: they are the recurrence's from token 0.
-/
module

public import proofs.«01_k».proof.Pre_exact_states
public import proofs.«01_k».proof.Proof.Forget
public import Idealize.ShloMosaic.Lib.Pipeline.ValueKit

@[expose] public section

set_option maxRecDepth 16384

noncomputable section

namespace Cert.ExactStates

open Idealize.ShloMosaic Idealize.ShloMosaic.Tactic
open Cert.Pre_exact_states Cert.Pre_exact_states.Facts

/-- The precondition's shape facts. -/
instance facts : Cert.Pre_exact_states.Facts where
  bcast_S_S1x1 := by decide
  slices_S32768x1_S32767x1_0_0 := by decide
  concatenates_S1x1_S32767x1_S32768x1_d0 := by decide
  transposes_S1x256_S256x1_1_0 := by decide
  bcast_S1_S1x1_1 := by decide
  bcast_S1x1_S32768x1_0_1 := by decide
  transposes_S1x1_S1x1_1_0 := by decide
  bcast_S_S32768 := by decide
  dot_S32768x256_S256x1_S32768x1_1_0_0_1_n_n_wf := by decide
  dot_S32768x1_S1x1_S32768x1_1_0_0_1_n_n_wf := by decide

variable (x : FVec Ideal S32768x256 .f32) (batch : IVec S32768 32) (wi : FVec Ideal S1x256 .f32) (w : FVec Ideal S1x1 .f32)
  (b1 b2 : FVec Ideal S1 .f32) (st : FVec Ideal S32768x1 .f32)

/-- The arguments' pre-activations. -/
def preOf : ℕ → EReal := Spec.pre (fun t d => x (ix2 t d)) (fun d => wi (ix2 0 d)) (b1 (ix1 0)) (b2 (ix1 0))

/-- The zero before token 0. -/
def start : FVec Ideal S1x1 .f32 := broadcastInDim S1x1 ![] bcast_S_S1x1 (constant (F := Ideal) S_ .f32 0x00000000#32)

/-- The states of all tokens but the last. -/
def earlier : FVec Ideal S32767x1 .f32 := extractStridedSlice S32767x1 ![0, 0] st slices_S32768x1_S32767x1_0_0

/-- The states a token late, behind the zero. -/
def before : FVec Ideal S32768x1 .f32 :=
  concatenate S32768x1 0 [⟨S1x1, start⟩, ⟨S32767x1, earlier st⟩] concatenates_S1x1_S32767x1_S32768x1_d0

/-- Before token 0 the state is zero. -/
theorem before_zero : before st (ix2 0 0) = (0 : EReal) := by
  refine (concatenate_pair_apply_left 0 start (earlier st) concatenates_S1x1_S32767x1_S32768x1_d0 (ix2 (0 : Fin 32768) (0 : Fin 1)) rfl (ix2 (0 : Fin 1) (0 : Fin 1)) fun b => ?_).trans ?_
  · match b with
    | ⟨0, _⟩ => rfl
    | ⟨1, _⟩ => rfl
  · exact Ideal.ofBits_zero_f32

/-- Before any other token it is the state of the token before. -/
theorem before_succ (u : ℕ) (hu : u + 1 < 32768) : before st (ix2 ⟨u + 1, hu⟩ 0) = st (ix2 ⟨u, by omega⟩ 0) := by
  refine (concatenate_pair_apply_right 0 start (earlier st) concatenates_S1x1_S32767x1_S32768x1_d0 (ix2 (⟨u + 1, hu⟩ : Fin 32768) (0 : Fin 1)) rfl rfl (ix2 (⟨u, by omega⟩ : Fin 32767) (0 : Fin 1)) (fun b hb => ?_) ?_).trans
    (extractStridedSlice_apply _ _ _ _ (ix2 (⟨u, by omega⟩ : Fin 32768) (0 : Fin 1)) fun a => ?_)
  · match b with
    | ⟨0, _⟩ => exact absurd rfl hb
    | ⟨1, _⟩ => rfl
  · rfl
  · match a with
    | ⟨0, _⟩ => show u = 0 + u; omega
    | ⟨1, _⟩ => rfl

/-- The input product and the first bias, at a token. -/
theorem input_at (u : Fin 32768) :
    Host.dotGeneral dot_S32768x256_S256x1_S32768x1_1_0_0_1_n_n none x (transpose S256x1 [1, 0] wi transposes_S1x256_S256x1_1_0) (ix2 u 0) = ∑ d : Fin 256, x (ix2 u d) * wi (ix2 0 d) := by
  pointwise

/-- The recurrent product at a token. -/
theorem recurrent_at (h : FVec Ideal S32768x1 .f32) (u : Fin 32768) :
    Host.dotGeneral dot_S32768x1_S1x1_S32768x1_1_0_0_1_n_n none h (transpose S1x1 [1, 0] w transposes_S1x1_S1x1_1_0) (ix2 u 0) = h (ix2 u 0) * w (ix2 0 0) := by
  pointwise
  exact Fin.sum_univ_one _

/-- A bias at a token. -/
theorem bias_at (b : FVec Ideal S1 .f32) (u : Fin 32768) :
    broadcastInDim S32768x1 ![0, 1] bcast_S1x1_S32768x1_0_1 (broadcastInDim S1x1 ![1] bcast_S1_S1x1_1 b) (ix2 u 0) = b (ix1 0) := by
  pointwise

/-- The precondition at a token: its state is the recurrence's step from the state before it. -/
theorem state_step (h : (fn (F := Ideal) x batch wi w b1 b2 st).1 = fun _ => 1#1) (u : Fin 32768) :
    st (ix2 u 0) = Ideal.tanh (preOf x wi b1 b2 u.val + w (ix2 0 0) * before st (ix2 u 0)) := by
  have h1 := congrFun h (ix2 u 0)
  have h2 : Ideal.cmp .oeq (st (ix2 u 0)) (Ideal.tanh (((Host.dotGeneral dot_S32768x256_S256x1_S32768x1_1_0_0_1_n_n none x (transpose S256x1 [1, 0] wi transposes_S1x256_S256x1_1_0) (ix2 u 0)
      + broadcastInDim S32768x1 ![0, 1] bcast_S1x1_S32768x1_0_1 (broadcastInDim S1x1 ![1] bcast_S1_S1x1_1 b1) (ix2 u 0) : EReal)
      + Host.dotGeneral dot_S32768x1_S1x1_S32768x1_1_0_0_1_n_n none (before st) (transpose S1x1 [1, 0] w transposes_S1x1_S1x1_1_0) (ix2 u 0))
      + broadcastInDim S32768x1 ![0, 1] bcast_S1x1_S32768x1_0_1 (broadcastInDim S1x1 ![1] bcast_S1_S1x1_1 b2) (ix2 u 0))) = 1#1 := h1
  rw [input_at, recurrent_at, bias_at, bias_at] at h2
  have h3 : st (ix2 u 0) = Ideal.tanh (((∑ d : Fin 256, x (ix2 u d) * wi (ix2 0 d) : EReal) + b1 (ix1 0) + before st (ix2 u 0) * w (ix2 0 0)) + b2 (ix1 0)) := by
    by_contra hne
    change BitVec.ofBool (decide _) = 1#1 at h2
    rw [decide_eq_false hne] at h2
    exact absurd h2 (by decide : (BitVec.ofBool false) ≠ 1#1)
  rw [h3]
  refine congrArg Ideal.tanh ?_
  unfold preOf Spec.pre
  rw [dif_pos u.isLt, mul_comm (w (ix2 0 0) : EReal)]
  rw [add_right_comm, add_assoc (∑ d : Fin 256, x (ix2 u d) * wi (ix2 0 d) : EReal)]

/-- THE STATES are the recurrence's from token 0. -/
theorem state_eq (h : (fn (F := Ideal) x batch wi w b1 b2 st).1 = fun _ => 1#1) :
    ∀ (u : ℕ) (hu : u < 32768), st (ix2 ⟨u, hu⟩ 0) = Spec.exact (w (ix2 0 0)) (preOf x wi b1 b2) (u + 1)
  | 0, hu => by
    refine (state_step x batch wi w b1 b2 st h ⟨0, hu⟩).trans ?_
    have hz := before_zero st
    show Ideal.tanh (_ + _ * before st (ix2 0 0)) = Ideal.tanh (_ + _ * 0)
    rw [hz]
  | u + 1, hu => by
    refine (state_step x batch wi w b1 b2 st h ⟨u + 1, hu⟩).trans ?_
    have ih := state_eq h u (by omega)
    rw [before_succ st u hu, ih]
    rfl

/-- And no token's segment is negative. -/
theorem nonneg (h : (fn (F := Ideal) x batch wi w b1 b2 st).2 = fun _ => 1#1) (u : Fin 32768) : 0 ≤ (batch (ix1 u)).toInt :=
  Spec.nonneg_of_sge _ (congrFun h (ix1 u))

end Cert.ExactStates

end
-- ==== Proof.Near.lean ====
/-
  The segments' means of the windowed states lie near those of the recurrence from token 0.
-/
module

public import proofs.«01_k».proof.Proof.Forget

@[expose] public section

noncomputable section

namespace Cert.Spec

open Idealize.ShloMosaic

/-- The sum of a segment's entries that are real numbers. -/
theorem total_real (seg : Fin 32768 → BitVec 32) (f : ℕ → EReal) (g : ℕ → ℝ) (h : ∀ t, f t = g t) (n : ℕ) :
    total seg f n = ((∑ t : Fin 32768, if seg t = BitVec.ofNat 32 n then g t.val else 0 : ℝ) : EReal) := by
  unfold total
  have coe_sum : ∀ (s : Finset (Fin 32768)) (e : Fin 32768 → ℝ), ((∑ t ∈ s, e t : ℝ) : EReal) = ∑ t ∈ s, (e t : EReal) := by
    intro s e
    induction s using Finset.cons_induction with
    | empty => simp
    | cons t s ht ih => rw [Finset.sum_cons, Finset.sum_cons, EReal.coe_add, ih]
  rw [coe_sum]
  refine Finset.sum_congr rfl fun t _ => ?_
  rw [h]
  split <;> simp

/-- The means of a segment that has a token are as near as the entries. -/
theorem mean_sub (seg : Fin 32768 → BitVec 32) (f f' : ℕ → EReal) (g g' : ℕ → ℝ) (h : ∀ t, f t = g t) (h' : ∀ t, f' t = g' t)
    (e : ℝ) (he : ∀ t, |g t - g' t| ≤ e) (n : ℕ) (hn : total seg (fun _ => 1) n ≠ 0) :
    ∃ d : ℝ, mean seg f n - mean seg f' n = d ∧ |d| ≤ e := by
  unfold mean
  rw [total_real seg f g h, total_real seg f' g' h', total_real seg (fun _ => 1) (fun _ => 1) (fun _ => by simp)] at *
  set P : ℝ := ∑ t : Fin 32768, if seg t = BitVec.ofNat 32 n then g t.val else 0 with hP
  set Q : ℝ := ∑ t : Fin 32768, if seg t = BitVec.ofNat 32 n then g' t.val else 0 with hQ
  set C : ℝ := ∑ t : Fin 32768, if seg t = BitVec.ofNat 32 n then (1 : ℝ) else 0 with hC
  have hC0 : 0 ≤ C := Finset.sum_nonneg fun t _ => by split <;> norm_num
  have hC1 : 0 < C := lt_of_le_of_ne hC0 fun h0 => hn (by rw [← h0]; rfl)
  have hd : ∀ r : ℝ, Ideal.div (r : EReal) (C : EReal) = ((r / C : ℝ) : EReal) := by
    intro r
    unfold Ideal.div
    rw [if_neg (by exact_mod_cast hC1.ne'), ← EReal.coe_inv, ← EReal.coe_mul, div_eq_mul_inv]
  refine ⟨P / C - Q / C, ?_, ?_⟩
  · rw [hd, hd, ← EReal.coe_sub]
  · rw [← sub_div, abs_div, abs_of_pos hC1, div_le_iff₀ hC1, hP, hQ, hC, ← Finset.sum_sub_distrib, Finset.mul_sum]
    refine (Finset.abs_sum_le_sum_abs _ _).trans (Finset.sum_le_sum fun t _ => ?_)
    split
    · rw [mul_one]; exact he _
    · simp

/-- The 97th power by squarings. -/
def power (v : EReal) : EReal :=
  let q2 := v * v
  let q4 := q2 * q2
  let q8 := q4 * q4
  let q16 := q8 * q8
  let q32 := q16 * q16
  v * q32 * (q32 * q32)

/-- Of a real number it is the power. -/
theorem power_coe (v : ℝ) : power (v : EReal) = ((v ^ 97 : ℝ) : EReal) := by
  unfold power
  simp only [← EReal.coe_mul]
  refine congrArg _ ?_
  ring

/-- Of the infinite value it is infinite. -/
theorem power_top : power ⊤ = ⊤ := by
  unfold power
  simp only [EReal.top_mul_top]

/-- THE DISTANCE: a segment that has a token has means within `2|w| ^ 97` of each other. -/
theorem mean_near (w : EReal) (a : ℕ → EReal) (seg : Fin 32768 → BitVec 32) (n : ℕ) (hn : total seg (fun _ => 1) n ≠ 0) :
    max (mean seg (tok w a) n - mean seg (fun t => exact w a (t + 1)) n) (-(mean seg (tok w a) n - mean seg (fun t => exact w a (t + 1)) n))
      ≤ 2 * power (max w (-w)) := by
  induction w with
  | coe w =>
    choose p hp _ using fun t => run_real (w : EReal) a (t / 32) (97 + t % 32)
    choose q hq _ using fun t => exact_real (w : EReal) a (t + 1)
    obtain ⟨d, hd, hb⟩ := mean_sub seg (tok w a) (fun t => exact w a (t + 1)) p q hp hq (2 * |w| ^ 97) (fun t => tok_near w a t _ _ (hp t) (hq t)) n hn
    rw [hd, ← EReal.coe_neg, ← EReal.coe_neg, ← EReal.coe_strictMono.monotone.map_max, ← EReal.coe_strictMono.monotone.map_max, power_coe,
      show (2 : EReal) = ((2 : ℝ) : EReal) from rfl, ← EReal.coe_mul]
    exact EReal.coe_le_coe_iff.2 hb
  | top =>
    rw [EReal.neg_top, max_eq_left bot_le, power_top, show (2 : EReal) = ((2 : ℝ) : EReal) from rfl, EReal.coe_mul_top_of_pos (by norm_num)]
    exact le_top
  | bot =>
    rw [EReal.neg_bot, max_eq_right bot_le, power_top, show (2 : EReal) = ((2 : ℝ) : EReal) from rfl, EReal.coe_mul_top_of_pos (by norm_num)]
    exact le_top

end Cert.Spec

end
-- ==== Proof.NearExact.lean ====
/-
  What the postcondition asks: at a segment that has a token, the distance from the recurrence's mean is within the tolerance.
-/
module

public import proofs.«01_k».proof.Post_near_exact
public import proofs.«01_k».proof.Proof.Near
public import proofs.«01_k».proof.Proof.RefValue
public import proofs.«01_k».proof.Proof.Gen.ReferenceIdeal

@[expose] public section

set_option maxRecDepth 16384

noncomputable section

namespace Cert.NearExact

open Idealize.ShloMosaic Idealize.ShloMosaic.Tactic
open Cert.Post_near_exact Cert.Post_near_exact.Facts

/-- The postcondition's shape facts. -/
instance facts : Cert.Post_near_exact.Facts where
  bcast_S_S16x1 := by decide
  bcast_S_S32768 := by decide
  bcast_S32768_S32768x1_0 := by decide
  bcast_S_S16 := by decide
  bcast_S16_S16x1_0 := by decide
  bcast_S_S1x1 := by decide
  bcast_S1x1_S16x1_0_1 := by decide
  scatter_S16x1_S32768x1_S32768x1_1_0_0_1_wf := by decide
  scatter_S16_S32768x1_S32768_n_0_0_1_wf := by decide

variable (x : FVec Ideal S32768x256 .f32) (batch : IVec S32768 32) (wi : FVec Ideal S1x256 .f32) (w : FVec Ideal S1x1 .f32)
  (b1 b2 : FVec Ideal S1 .f32) (st : FVec Ideal S32768x1 .f32) (means : FVec Ideal S16x1 .f32)

/-- The states' sums by segment. -/
def sums : FVec Ideal S16x1 .f32 :=
  Host.scatterAdd scatter_S16x1_S32768x1_S32768x1_1_0_0_1 (broadcastInDim S16x1 ![] bcast_S_S16x1 (constant (F := Ideal) S_ .f32 0x00000000#32))
    (broadcastInDim S32768x1 ![0] bcast_S32768_S32768x1_0 (select (cmpi .slt batch (broadcastInDim S32768 ![] bcast_S_S32768 (constantI S_ 32 0#32))) (addi batch (broadcastInDim S32768 ![] bcast_S_S32768 (constantI S_ 32 16#32))) batch)) st

/-- The segments' numbers of tokens. -/
def counts : FVec Ideal S16 .f32 :=
  sitofp .f32 (Host.scatter scatter_S16_S32768x1_S32768_n_0_0_1 IntOp.addi (broadcastInDim S16 ![] bcast_S_S16 (constantI S_ 32 0#32))
    (broadcastInDim S32768x1 ![0] bcast_S32768_S32768x1_0 (select (cmpi .slt (fn_clip (F := Ideal) batch (constantI S_ 32 0#32)) (broadcastInDim S32768 ![] bcast_S_S32768 (constantI S_ 32 0#32)))
      (addi (fn_clip (F := Ideal) batch (constantI S_ 32 0#32)) (broadcastInDim S32768 ![] bcast_S_S32768 (constantI S_ 32 16#32))) (fn_clip (F := Ideal) batch (constantI S_ 32 0#32))))
    (broadcastInDim S32768 ![] bcast_S_S32768 (constantI S_ 32 1#32)))

/-- The sums are the segments' totals. -/
theorem sums_eq (hseg : ∀ u : Fin 32768, 0 ≤ (batch (ix1 u)).toInt) (f : ℕ → EReal) (hf : ∀ (u : ℕ) (hu : u < 32768), st (ix2 ⟨u, hu⟩ 0) = f u) (i : S16x1.Idx) :
    sums batch st i = Spec.total (fun u => batch (ix1 u)) f (i 0).val := by
  unfold sums
  refine Cert.ReferenceIdeal.Windows.sums_at _ _ (fun u => ?_) _ (fun j => ?_) _ _ (fun u => hf u.val u.isLt) i
  · pointwise
    exact Cert.ReferenceIdeal.Windows.wrap_nonneg _ _ (hseg u)
  · pointwise

/-- The counts are the segments' totals of ones. -/
theorem counts_eq (hseg : ∀ u : Fin 32768, 0 ≤ (batch (ix1 u)).toInt) (i : S16.Idx) :
    counts batch i = Spec.total (fun u => batch (ix1 u)) (fun _ => 1) (i 0).val := by
  unfold counts
  refine Cert.ReferenceIdeal.Windows.counts_at _ _ (fun u => ?_) _ (fun j => ?_) _ (fun j => ?_) i
  · pointwise [fn_clip]
    show Scalar.select (IntOp.cmpi .slt (IntOp.maxsi 0#32 (batch (ix1 u))) 0#32) _ (IntOp.maxsi 0#32 (batch (ix1 u))) = _
    rw [Cert.ReferenceIdeal.Windows.max_zero _ (hseg u)]
    exact Cert.ReferenceIdeal.Windows.wrap_nonneg _ _ (hseg u)
  · pointwise
  · pointwise

/-- The number two. -/
theorem two : Ideal.ofBits .f32 0x40000000#32 = 2 := by
  have h : Ideal.ofBits .f32 0x40000000#32 = ((2 : ℝ) : EReal) := by
    simp [Ideal.ofBits, Ideal.ieee, -EReal.coe_mul]
    norm_num
  exact h

/-- A disjunction whose second part is true if the first is not. -/
theorem or_of (a b : BitVec 1) (h : a ≠ 1#1 → b = 1#1) : a ||| b = 1#1 := by
  revert a b
  decide

/-- THE POSTCONDITION from its reading at every segment. -/
theorem fn_of (hseg : ∀ u : Fin 32768, 0 ≤ (batch (ix1 u)).toInt) (f : ℕ → EReal) (hf : ∀ (u : ℕ) (hu : u < 32768), st (ix2 ⟨u, hu⟩ 0) = f u)
    (g : ℕ → EReal) (hm : ∀ i, means i = g (i 0).val)
    (hn : ∀ n, Spec.total (fun u => batch (ix1 u)) (fun _ => 1) n ≠ 0 →
      max (g n - Spec.mean (fun u => batch (ix1 u)) f n) (-(g n - Spec.mean (fun u => batch (ix1 u)) f n)) ≤ 2 * Spec.power (max (w (ix2 0 0)) (-(show EReal from w (ix2 0 0))))) :
    fn (F := Ideal) x batch wi w b1 b2 st means = fun _ => 1#1 := by
  funext i
  have hc : broadcastInDim S16x1 ![0] bcast_S16_S16x1_0 (counts batch) i = Spec.total (fun u => batch (ix1 u)) (fun _ => 1) (i 0).val := by
    refine (broadcastInDim_apply _ _ _ _ (ix1 (i 0)) fun a => ?_).trans (counts_eq batch hseg (ix1 (i 0)))
    match a with
    | ⟨0, _⟩ => rfl
  have hs := sums_eq batch st hseg f hf i
  have hp : broadcastInDim S16x1 ![0, 1] bcast_S1x1_S16x1_0_1 (fun j : S1x1.Idx => (Ideal.ofBits .f32 0x40000000#32 * Spec.power (max (w j) (-(show EReal from w j))) : EReal)) i
      = 2 * Spec.power (max (w (ix2 0 0)) (-(show EReal from w (ix2 0 0)))) := by
    rw [two]
    refine broadcastInDim_apply _ _ _ _ (ix2 0 0) fun a => ?_
    match a with
    | ⟨0, _⟩ => rfl
    | ⟨1, _⟩ => rfl
  show Ideal.cmp .oeq (broadcastInDim S16x1 ![0] bcast_S16_S16x1_0 (counts batch) i) (Ideal.ofBits .f32 0x00000000#32)
    ||| Ideal.cmp .ole (max ((means i : EReal) - Ideal.div (sums batch st i) (broadcastInDim S16x1 ![0] bcast_S16_S16x1_0 (counts batch) i)) (-((means i : EReal) - Ideal.div (sums batch st i) (broadcastInDim S16x1 ![0] bcast_S16_S16x1_0 (counts batch) i))))
      (broadcastInDim S16x1 ![0, 1] bcast_S1x1_S16x1_0_1 (fun j : S1x1.Idx => (Ideal.ofBits .f32 0x40000000#32 * Spec.power (max (w j) (-(show EReal from w j))) : EReal)) i) = 1#1
  rw [hc, hs, hp, hm i, Ideal.ofBits_zero_f32]
  refine or_of _ _ fun h0 => ?_
  have h1 : Spec.total (fun u => batch (ix1 u)) (fun _ => 1) (i 0).val ≠ 0 := fun h => h0 (by
    rw [h]
    show BitVec.ofBool (decide ((0 : EReal) = 0)) = 1#1
    rw [decide_eq_true rfl]
    rfl)
  have h2 := hn _ h1
  unfold Spec.mean at h2
  show BitVec.ofBool (decide _) = 1#1
  rw [decide_eq_true h2]
  rfl

end Cert.NearExact

end
-- ==== Proof.Distance.lean ====
/-
  The kernel's result beside the states of the recurrence from token 0: the postcondition from the precondition.
-/
module

public import proofs.«01_k».proof.Defs
public import proofs.«01_k».proof.Proof.Beside.KernelValue
public import proofs.«01_k».proof.Proof.Beside.Result
public import proofs.«01_k».proof.Proof.ExactStates
public import proofs.«01_k».proof.Proof.NearExact

@[expose] public section

set_option maxRecDepth 16384

noncomputable section

namespace Cert.Distance

open Idealize.ShloMosaic Idealize.ShloMosaic.Tactic Idealize.SL.Sem
open Cert.BesideIdeal

/-- The postcondition of the kernel's result. -/
theorem near (m : (ℓ : Loc nD τ sig) → Buf (Elt Ideal) ℓ) (hp : Cert.Pre_BesideIdeal m) (c : Dev nD) :
    Cert.Post_near_exact.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (extractStridedSlice S16x1 ![0, 0] (Cert.BesideIdeal.Body.outAt m c Cert.BesideIdeal.Gen.t0_3) Cert.BesideIdeal.Gen.slices_S16x128_S16x1_0_0) = fun _ => 1#1 :=
  Cert.NearExact.fn_of _ _ _ _ _ _ _ _ (Cert.ExactStates.nonneg _ _ _ _ _ _ _ (hp c).2)
    _ (Cert.ExactStates.state_eq _ _ _ _ _ _ _ (hp c).1)
    _ (Cert.BesideIdeal.Body.result_at m c Cert.BesideIdeal.Gen.t0_3)
    fun n hn => Cert.Spec.mean_near _ _ _ n hn

/-- THE DISTANCE from the recurrence begun at token 0, after every run. -/
theorem holds : Cert.holds_BesideIdeal_near_exact := by
  intro m g hp
  refine (θ_run (defs (F := Ideal)) _ _).mono (fun r h c => ?_) (Cert.BesideIdeal.Body.result m g)
  obtain ⟨hr, h0, h1, h2, h3, h4, h5, h6⟩ := h c
  refine ⟨h0, h1, h2, h3, h4, h5, h6, ?_⟩
  rw [hr]
  exact near m hp c

end Cert.Distance

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.BesideIdeal
public import proofs.«01_k».proof.Proof.Gen.BesideIdeal.Skeleton
public import proofs.«01_k».proof.Proof.Gen.BesideIdeal.Launch
public import proofs.«01_k».proof.Proof.Gen.BesideIdeal.Points
public import proofs.«01_k».proof.Proof.Gen.BesideIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Result
public import proofs.«01_k».proof.Proof.Printed.Region
public import proofs.«01_k».proof.Proof.RefLoop
public import proofs.«01_k».proof.Proof.Equal
public import proofs.«01_k».proof.Proof.Distance
public import Idealize.ShloMosaic.Adequacy
public import Idealize.ShloMosaic.Init

@[expose] public section

noncomputable section

namespace Cert.Proof

open Idealize.ShloMosaic Idealize.SL.Sem

/-- The reference's frame. -/
theorem reference_frame : Cert.quiescent_ReferenceIdeal := fun m g _ =>
  (θ_run (Cert.ReferenceIdeal.defs (F := Ideal)) _ _).mono (fun r h => ⟨fun c => (h c).2, sem_eq_zero_of_no_sems (by decide) r.2⟩) (Cert.ReferenceIdeal.Value.run (F := Ideal) m g)

/-- The two programs' results agree. -/
theorem agree : Cert.algebraic_KernelIdeal_ReferenceIdeal_pre_batch_not_negative := by
  intro m g m' g' hp he
  refine ⟨fun c => extractStridedSlice Cert.KernelIdeal.S16x1 ![0, 0] (Cert.KernelIdeal.Body.outAt m c Cert.KernelIdeal.Gen.t0_3) Cert.KernelIdeal.Gen.slices_S16x128_S16x1_0_0, ?_, ?_⟩
  · exact Cert.KernelIdeal.Body.result m g
  · refine (θ_run (Cert.ReferenceIdeal.defs (F := Ideal)) _ _).mono (fun r h c => ⟨(h c).1.trans ?_, (h c).2⟩) (Cert.ReferenceIdeal.Loop.run m' g')
    obtain ⟨e0, e1, e2, e3, e4, e5⟩ := he c
    exact Cert.Equal.values m m' hp c e0 e1 e2 e3 e4 e5

theorem claim : Cert.Claim := ⟨Cert.Kernel.Gen.facts, Cert.KernelIdeal.Gen.facts, Cert.ReferenceIdeal.Gen.facts, Cert.BesideIdeal.Gen.facts,
  Cert.Equal.pre_facts, Cert.ExactStates.facts, Cert.NearExact.facts,
  fun m g _ => Cert.Kernel.Body.frame m g,
  fun m g _ => Cert.KernelIdeal.Body.frame m g,
  fun m g _ => Cert.KernelIdeal.Body.frame m g,
  reference_frame,
  fun m g _ => reference_frame m g trivial,
  fun m g _ => Cert.BesideIdeal.Body.frame m g,
  trivial,
  agree,
  Cert.Distance.holds⟩

end Cert.Proof

end
